-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![1024, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S256x128 .bf16) (main_arg1 : FVec F S128x8 .bf16) (main_arg2 : IVec S256x1 32) (main_arg3 : FVec F S2x128x256 .bf16) (main_arg4 : FVec F S128x256 .bf16) : IVec S_ 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x8 .bf16 := Host.absf main_arg1
  let main_cst_0 : FVec F S_ .bf16 := constant S_ .bf16 0x7F80#16
  let main_v5 : FVec F S128x8 .bf16 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S256x1 32 := broadcastInDim S256x1 ![] bcast_S_S256x1 main_c_2
  let main_v10 : IVec S256x1 1 := cmpi .sge main_arg2 main_v9
  let main_c_3 : IVec S_ 32 := constantI S_ 32 8#32
  let main_v11 : IVec S256x1 32 := broadcastInDim S256x1 ![] bcast_S_S256x1 main_c_3
  let main_v12 : IVec S256x1 1 := cmpi .slt main_arg2 main_v11
  let main_v13 : IVec S256x1 1 := andi main_v10 main_v12
  let main_c_4 : IVec S_ 1 := constantI S_ 1 1#1
  let main_v14 : IVec S_ 1 := (fun x v => Host.reduce IntOp.andi x v reducesTo_S256x1_S_d0_1 h_S_) main_v13 main_c_4
  let main_v15 : IVec S_ 1 := andi main_v14 main_v8
  main_v15
-- ==== Pre_routed_ReferenceIdeal.lean ====
abbrev S1024x128 : Shape := ⟨2, ![1024, 128]⟩
abbrev S128x8 : Shape := ⟨2, ![128, 8]⟩
abbrev S1024x1 : Shape := ⟨2, ![1024, 1]⟩
abbrev S8x128x256 : Shape := ⟨3, ![8, 128, 256]⟩
abbrev S128x256 : Shape := ⟨2, ![128, 256]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S1024x128 .bf16) (main_arg1 : FVec F S128x8 .bf16) (main_arg2 : IVec S1024x1 32) (main_arg3 : FVec F S8x128x256 .bf16) (main_arg4 : FVec F S128x256 .bf16) : IVec S_ 1 :=
  let main_v0 : FVec F S1024x128 .bf16 := Host.absf main_arg0
  let main_cst : FVec F S_ .bf16 := constant S_ .bf16 0x7F80#16
  let main_v1 : FVec F S1024x128 .bf16 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x8 .bf16 := Host.absf main_arg1
  let main_cst_0 : FVec F S_ .bf16 := constant S_ .bf16 0x7F80#16
  let main_v5 : FVec F S128x8 .bf16 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 32 := constantI S_ 32 8#32
  let main_v11 : IVec S1024x1 32 := broadcastInDim S1024x1 ![] bcast_S_S1024x1 main_c_3
  let main_v12 : IVec S1024x1 1 := cmpi .slt main_arg2 main_v11
  let main_v13 : IVec S1024x1 1 := andi main_v10 main_v12
  let main_c_4 : IVec S_ 1 := constantI S_ 1 1#1
  let main_v14 : IVec S_ 1 := (fun x v => Host.reduce IntOp.andi x v reducesTo_S1024x1_S_d0_1 h_S_) main_v13 main_c_4
  let main_v15 : IVec S_ 1 := andi main_v14 main_v8
  main_v15
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S1152x256 : Shape := ⟨2, ![1152, 256]⟩
abbrev S256x1152 : Shape := ⟨2, ![256, 1152]⟩
abbrev S3 : Shape := ⟨1, ![3]⟩
abbrev S_ : Shape := ⟨0, ![]⟩
abbrev S1 : Shape := ⟨1, ![1]⟩
abbrev S256x8 : Shape := ⟨2, ![256, 8]⟩
abbrev S256 : Shape := ⟨1, ![256]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S256x256, .f32⟩
  | .local _ .vmem, ⟨0, _⟩ => ⟨S256x128, .bf16⟩
  | .local _ .vmem, ⟨1, _⟩ => ⟨S128x8, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S256x256, .f32⟩
  | .local _ .vmem, ⟨6, _⟩ => ⟨S1152x256, .bf16⟩
  | .local _ .vmem, ⟨7, _⟩ => ⟨S256x1152, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v22 : BitVec 32 := Scalar.addi v2 c1_i32_16
  let c4_i32_17 : BitVec 32 := 4#32
  let v23 : BitVec 32 := Scalar.remsi v22 c4_i32_17
  let c1_i32_20 : BitVec 32 := 1#32
  let v24 : BitVec 32 := Scalar.muli v23 c1_i32_20
  let v25 : BitVec 32 := Scalar.addi c0_i32_21 v24
  v25.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_24 : BitVec 32 := 2#32
  let v32 : BitVec 32 := Scalar.addi v2 c2_i32_24
  let c4_i32_25 : BitVec 32 := 4#32
  let v33 : BitVec 32 := Scalar.remsi v32 c4_i32_25
  let c1_i32_28 : BitVec 32 := 1#32
  let v34 : BitVec 32 := Scalar.muli v33 c1_i32_28
  let v35 : BitVec 32 := Scalar.addi c0_i32_29 v34
  v35.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_33 : BitVec 32 := 3#32
  let v42 : BitVec 32 := Scalar.addi v2 c3_i32_33
  let c4_i32_34 : BitVec 32 := 4#32
  let v43 : BitVec 32 := Scalar.remsi v42 c4_i32_34
  let c1_i32_37 : BitVec 32 := 1#32
  let v44 : BitVec 32 := Scalar.muli v43 c1_i32_37
  let v45 : BitVec 32 := Scalar.addi c0_i32_38 v44
  v45.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x128 : Shape := ⟨2, ![1024, 128]⟩
abbrev S128x8 : Shape := ⟨2, ![128, 8]⟩
abbrev S1024x1 : Shape := ⟨2, ![1024, 1]⟩
abbrev S8x128x256 : Shape := ⟨3, ![8, 128, 256]⟩
abbrev S128x256 : Shape := ⟨2, ![128, 256]⟩
abbrev S1024x8 : Shape := ⟨2, ![1024, 8]⟩
abbrev S_ : Shape := ⟨0, ![]⟩
abbrev S1024 : Shape := ⟨1, ![1024]⟩
abbrev S1024x256 : Shape := ⟨2, ![1024, 256]⟩
abbrev S1024x1x1 : Shape := ⟨3, ![1024, 1, 1]⟩
abbrev S1024x128x256 : Shape := ⟨3, ![1024, 128, 256]⟩

abbrev nBuf : Space → Nat
  | .hbm => 45
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S128x8, .bf16⟩
  | .hbm, ⟨2, _⟩ => ⟨S1024x1, .i32⟩
  | .hbm, ⟨3, _⟩ => ⟨S8x128x256, .bf16⟩
  | .hbm, ⟨4, _⟩ => ⟨S128x256, .bf16⟩
  | .hbm, ⟨5, _⟩ => ⟨S1024x128, .f32⟩
  | .hbm, ⟨6, _⟩ => ⟨S128x8, .f32⟩
  | .hbm, ⟨7, _⟩ => ⟨S1024x8, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x8, .f32⟩
  | .hbm, ⟨12, _⟩ => ⟨S1024x8, .f32⟩
  | .hbm, ⟨13, _⟩ => ⟨S1024x8, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x8, .f32⟩
  | .hbm, ⟨18, _⟩ => ⟨S1024x8, .f32⟩
  | .hbm, ⟨19, _⟩ => ⟨S128x256, .f32⟩
  | .hbm, ⟨20, _⟩ => ⟨S1024x256, .f32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S_, .i32⟩
  | .hbm, ⟨25, _⟩ => ⟨S1024x1, .i32⟩
  | .hbm, ⟨26, _⟩ => ⟨S1024x1, .i32⟩
  | .hbm, ⟨27, _⟩ => ⟨S1024x1, .i32⟩
  | .hbm, ⟨28, _⟩ => ⟨S1024x1x1, .i32⟩
  | .hbm, ⟨29, _⟩ => ⟨S1024x1, .f32⟩
  | .hbm, ⟨30, _⟩ => ⟨S8x128x256, .f32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x128x256, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Protocol.lean ====
/-
# The exchange of expert matrices between the four devices: cells, payloads, contents

Every device c of the ring holds the matrices of two of the eight experts and needs all of them. It signals the three
other devices' barrier semaphores (its signal number o goes to the device o + 1 places after it), waits for their
three signals, copies its two matrices into its own rows 128 … 383 of the stacked-matrix buffer, and sends that slab to
the three others: transfer number o goes to the device o + 1 places after it, into slot o (rows 384 + 256 o …) there,
and credits receive cell o there and its own send cell o.

This module fixes that protocol as a schedule of rounds: who pays which cell what, and what a payment hands over.

* A barrier cell has three duties, one unit each. Duty o is paid by the device whose signal number o goes there; it
  hands over the payer's landing slot that this device's transfer back will write (slot 2 - o), at any contents, and the
  fact that the payer has reached round 0 of the receive cell of that slot.
* Receive cell o has one duty of one slab's bytes: the slot, holding the sender's two matrices.
* Send cell o has one duty of the same size: the share of its own slab that the device lent the transfer.

The contents are all one function `wFull c` of the launch memory, what the stacked-matrix buffer of device c holds once
everything has arrived.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic
public import Idealize.ShloMosaic.Lib.Pipeline.Value
public import Idealize.ShloMosaic.Lib.Pipeline.ValueKit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the exchange's -/

/-- The exchange's rounds; a duty is named by a number below three. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## Places on the ring -/

set_option backward.proofsInPublic true in
/-- The device o + 1 places after c: where c's signal and transfer number o go. -/
def peer (o : Fin 3) (c : Dev nD) : Dev nD := ⟨(c.val + (o.val + 1)) % 4, Nat.mod_lt _ (by decide)⟩

set_option backward.proofsInPublic true in
/-- The number with which the device at `peer o c` reaches back to c. -/
def rev (o : Fin 3) : Fin 3 := ⟨2 - o.val, by omega⟩

theorem rev_rev (o : Fin 3) : rev (rev o) = o := by revert o; decide
theorem peer_rev_peer (o : Fin 3) (c : Dev nD) : peer (rev o) (peer o c) = c := by revert o c; decide
theorem peer_peer_rev (o : Fin 3) (c : Dev nD) : peer o (peer (rev o) c) = c := by revert o c; decide

/-- Going o + 1 places on, as a permutation of the devices. -/
def shift (o : Fin 3) : Dev nD ≃ Dev nD := ⟨peer o, peer (rev o), peer_rev_peer o, peer_peer_rev o⟩

theorem dev1_eq (c : Dev nD) : (⟨k0_dev1 c, k0_dev1_lt c⟩ : Dev nD) = peer 0 c := Fin.ext (by revert c; decide)
theorem dev2_eq (c : Dev nD) : (⟨k0_dev2 c, k0_dev2_lt c⟩ : Dev nD) = peer 1 c := Fin.ext (by revert c; decide)
theorem dev3_eq (c : Dev nD) : (⟨k0_dev3 c, k0_dev3_lt c⟩ : Dev nD) = peer 2 c := Fin.ext (by revert c; decide)
theorem dev4_eq (c : Dev nD) : (⟨k0_dev4 c, k0_dev4_lt c⟩ : Dev nD) = peer 0 c := Fin.ext (by revert c; decide)
theorem dev5_eq (c : Dev nD) : (⟨k0_dev5 c, k0_dev5_lt c⟩ : Dev nD) = peer 1 c := Fin.ext (by revert c; decide)
theorem dev6_eq (c : Dev nD) : (⟨k0_dev6 c, k0_dev6_lt c⟩ : Dev nD) = peer 2 c := Fin.ext (by revert c; decide)

/-! ## The stacked-matrix buffer and its pieces -/

abbrev wM : Memref sig .tc .vmem S1152x256 .bf16 := Memref.whole cc0_scratch0
abbrev xM : Memref sig .tc .vmem S256x1152 .bf16 := Memref.whole cc0_scratch1

/-- Rows 128 … 383, the device's own slab. -/
abbrev ownR : Rect S1152x256 := Rect.unit (s := S1152x256) ![128, 0] S256x256.size inb_S1152x256_S256x256_128_0
abbrev ownM : Memref sig .tc .vmem S256x256 .bf16 := wM.slice ownR (fun _ => rfl)

theorem slot_inb (o : Fin 3) : ∀ a : Fin 2, (![384 + 256 * o.val, 0] : Fin 2 → ℕ) a + S256x256.size a ≤ S1152x256.size a := by
  revert o; decide

/-- Rows 384 + 256 o … 639 + 256 o: landing slot o. -/
abbrev slotR (o : Fin 3) : Rect S1152x256 := Rect.unit (s := S1152x256) ![384 + 256 * o.val, 0] S256x256.size (slot_inb o)
abbrev slotM (o : Fin 3) : Memref sig .tc .vmem S256x256 .bf16 := wM.slice (slotR o) (fun _ => rfl)

/-- Rows 0 … 127, the shared expert's matrix. -/
abbrev topR : Rect S1152x256 := Rect.unit (s := S1152x256) ![0, 0] S128x256.size inb_S1152x256_S128x256_0_0

theorem own_set : ownM.view.set = ownR.set := View.set_slice_whole _ _
theorem slot_set (o : Fin 3) : (slotM o).view.set = (slotR o).set := View.set_slice_whole _ _

theorem mem_own {i : S1152x256.Idx} : i ∈ ownR.set ↔ 128 ≤ (i 0).val ∧ (i 0).val < 384 := by
  rw [Rect.mem_set_unit, Fin.forall_fin_two]
  have h1 : (i 1).val < 256 := (i 1).isLt
  show (128 ≤ _ ∧ _ < 128 + 256) ∧ (0 ≤ _ ∧ _ < 0 + 256) ↔ _
  omega
theorem mem_slot {o : Fin 3} {i : S1152x256.Idx} :
    i ∈ (slotR o).set ↔ 384 + 256 * o.val ≤ (i 0).val ∧ (i 0).val < 640 + 256 * o.val := by
  rw [Rect.mem_set_unit, Fin.forall_fin_two]
  have h1 : (i 1).val < 256 := (i 1).isLt
  show (384 + 256 * o.val ≤ _ ∧ _ < 384 + 256 * o.val + 256) ∧ (0 ≤ _ ∧ _ < 0 + 256) ↔ _
  omega
theorem mem_top {i : S1152x256.Idx} : i ∈ topR.set ↔ (i 0).val < 128 := by
  rw [Rect.mem_set_unit, Fin.forall_fin_two]
  have h1 : (i 1).val < 256 := (i 1).isLt
  show (0 ≤ _ ∧ _ < 0 + 128) ∧ (0 ≤ _ ∧ _ < 0 + 256) ↔ _
  omega

/-- The five pieces cover the buffer. -/
theorem w_cover : (Finset.univ : Finset S1152x256.Idx)
    = topR.set ∪ (ownR.set ∪ ((slotR 0).set ∪ ((slotR 1).set ∪ (slotR 2).set))) := by
  ext i
  simp only [Finset.mem_union, mem_top, mem_own, mem_slot, Finset.mem_univ, true_iff]
  have h0 : (i 0).val < 1152 := (i 0).isLt
  show _ ∨ _ ∨ (384 + 256 * 0 ≤ _ ∧ _ < 640 + 256 * 0) ∨ (384 + 256 * 1 ≤ _ ∧ _ < 640 + 256 * 1) ∨ (384 + 256 * 2 ≤ _ ∧ _ < 640 + 256 * 2)
  omega

theorem disj_top : Disjoint topR.set (ownR.set ∪ ((slotR 0).set ∪ ((slotR 1).set ∪ (slotR 2).set))) := by
  rw [Finset.disjoint_left]; intro i hi
  simp only [Finset.mem_union, mem_top, mem_own, mem_slot] at hi ⊢
  omega
theorem disj_own : Disjoint ownR.set ((slotR 0).set ∪ ((slotR 1).set ∪ (slotR 2).set)) := by
  rw [Finset.disjoint_left]; intro i hi
  simp only [Finset.mem_union, mem_own, mem_slot] at hi ⊢
  omega
theorem disj_slot0 : Disjoint (slotR 0).set ((slotR 1).set ∪ (slotR 2).set) := by
  rw [Finset.disjoint_left]; intro i hi
  simp only [Finset.mem_union, mem_slot] at hi ⊢
  have : ((0 : Fin 3).val) = 0 := rfl
  have : ((1 : Fin 3).val) = 1 := rfl
  have : ((2 : Fin 3).val) = 2 := rfl
  omega
theorem disj_slot1 : Disjoint (slotR 1).set (slotR 2).set := by
  rw [Finset.disjoint_left]; intro i hi
  simp only [mem_slot] at hi ⊢
  have : ((1 : Fin 3).val) = 1 := rfl
  have : ((2 : Fin 3).val) = 2 := rfl
  omega

/-- A points-to of a piece of device c's stacked-matrix buffer. -/
abbrev wPts (c : Dev nD) (S : Finset S1152x256.Idx) (q : PosShare TreeShare) (f : Buf (Elt F) ((c : Thread nD τ).loc cc0_scratch0)) : sProp 𝕄 :=
  ((c : Thread nD τ).loc cc0_scratch0) ↦[S]{q} f

omit [FloatOps F] in
/-- The whole buffer at one share is its five pieces at that share. -/
theorem w_pieces (c : Dev nD) (q : PosShare TreeShare) (f : Buf (Elt F) ((c : Thread nD τ).loc cc0_scratch0)) :
    wPts c Finset.univ q f ⊣⊢ iprop(wPts c topR.set q f ∗ wPts c ownR.set q f ∗ wPts c (slotR 0).set q f ∗ wPts c (slotR 1).set q f ∗ wPts c (slotR 2).set q f) := by
  rw [show (wPts c Finset.univ q f : sProp 𝕄) = wPts c (topR.set ∪ (ownR.set ∪ ((slotR 0).set ∪ ((slotR 1).set ∪ (slotR 2).set)))) q f from
    congrArg (fun S => wPts c S q f) w_cover]
  refine (pointsTo_union disj_top).trans (sep_congr .rfl ((pointsTo_union disj_own).trans (sep_congr .rfl
    ((pointsTo_union disj_slot0).trans (sep_congr .rfl (pointsTo_union disj_slot1))))))

/-! ## The semaphores and cells -/

abbrev barS : Sem sig := (SemArray.scalar (sig.barrier 0 rfl) : Sems sig S_).sem
set_option backward.proofsInPublic true in
/-- Send semaphore o and receive semaphore o. -/
abbrev sendS (o : Fin 3) : DmaSem sig := (⟨6 + o.val, by omega⟩ : Fin 12)
set_option backward.proofsInPublic true in
abbrev recvS (o : Fin 3) : DmaSem sig := (⟨9 + o.val, by omega⟩ : Fin 12)

abbrev barCell (c : Dev nD) : GSem nD τ sig := ((c : Thread nD τ), .reg barS)
abbrev sendCell (o : Fin 3) (c : Dev nD) : GSem nD τ sig := ((c : Thread nD τ), .dma (sendS o))
abbrev recvCell (o : Fin 3) (c : Dev nD) : GSem nD τ sig := ((c : Thread nD τ), .dma (recvS o))

/-- The six semaphores the kernel allocates, -/
abbrev osem : Fin 6 → SemLoc sig
  | 0 => .dma (sendS 0) | 1 => .dma (sendS 1) | 2 => .dma (sendS 2) | 3 => .dma (recvS 0) | 4 => .dma (recvS 1) | 5 => .dma (recvS 2)
/-- and all seven of the exchange's, the runtime's barrier first. -/
abbrev csem : Fin 7 → SemLoc sig
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

set_option backward.proofsInPublic true in
/-- The places of the send and receive cells in that list. -/
abbrev ks (o : Fin 3) : Fin 7 := ⟨1 + o.val, by omega⟩
set_option backward.proofsInPublic true in
abbrev kr (o : Fin 3) : Fin 7 := ⟨4 + o.val, by omega⟩
theorem kcell_send (o : Fin 3) (c : Dev nD) : kcell (c, ks o) = sendCell o c := by fin_cases o <;> rfl
theorem kcell_recv (o : Fin 3) (c : Dev nD) : kcell (c, kr o) = recvCell o c := by fin_cases o <;> rfl

/-- The bytes of one slab. -/
abbrev N : ℕ := ownM.view.dmaCredit
theorem N_pos : 0 < N := View.dmaCredit_pos _ (by decide)
theorem N_slot (o : Fin 3) : (slotM o).view.dmaCredit = N := by fin_cases o <;> rfl

/-! ## Contents -/

/-- What the staging copies of device c's five arguments hold. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))
def sstg (c : Dev nD) : (cc0_stg4_0 : Ref sig .tc).ty.Contents (Elt F) :=
  (win0_4.blk (0 : Fin 1)).view.read (Elt F) ((s₀ m ρ).mem ((c : Thread nD τ).loc main_arg4))

set_option backward.proofsInPublic true in
/-- The device k places before c. -/
def back (k : ℕ) (c : Dev nD) : Dev nD := ⟨(c.val + 4 - k % 4) % 4, Nat.mod_lt _ (by decide)⟩
theorem back_zero (c : Dev nD) : back 0 c = c := by revert c; decide
theorem back_peer (o : Fin 3) (c : Dev nD) : back (o.val + 1) (peer o c) = c := by revert o c; decide

set_option backward.proofsInPublic true in
/-- The stacked matrices of device c as a function of every device's slab and of the shared matrix: the shared matrix
    on top, below it the slab of the device k places before c as slab number k. -/
def stack (S : FVec F S128x256 .bf16) (W : Dev nD → FVec F S256x256 .bf16) (c : Dev nD) : FVec F S1152x256 .bf16 := fun i =>
  if h : (i 0).val < 128 then S (fun | 0 => (⟨(i 0).val, h⟩ : Fin 128) | 1 => (⟨(i 1).val, (i 1).isLt⟩ : Fin 256))
  else W (back (((i 0).val - 128) / 256) c)
    (fun | 0 => (⟨((i 0).val - 128) % 256, Nat.mod_lt _ (by decide)⟩ : Fin 256) | 1 => (⟨(i 1).val, (i 1).isLt⟩ : Fin 256))

theorem stack_top (S : FVec F S128x256 .bf16) (W : Dev nD → FVec F S256x256 .bf16) (c : Dev nD) (i : S1152x256.Idx) (x : S128x256.Idx)
    (h0 : (i 0).val = 0 + (x 0).val) (h1 : (i 1).val = 0 + (x 1).val) : stack S W c i = S x := by
  have hlt : (x 0).val < 128 := (x 0).isLt
  unfold stack
  rw [dif_pos (by omega)]
  refine congrArg S (funext fun a => Fin.ext ?_)
  fin_cases a
  · show (i 0).val = _; rw [h0]; exact Nat.zero_add _
  · show (i 1).val = _; rw [h1]; exact Nat.zero_add _

theorem stack_slab (S : FVec F S128x256 .bf16) (W : Dev nD → FVec F S256x256 .bf16) (c : Dev nD) (k : ℕ) (i : S1152x256.Idx) (x : S256x256.Idx)
    (h0 : (i 0).val = 128 + 256 * k + (x 0).val) (h1 : (i 1).val = 0 + (x 1).val) : stack S W c i = W (back k c) x := by
  have hlt : (x 0).val < 256 := (x 0).isLt
  unfold stack
  rw [dif_neg (by omega), show ((i 0).val - 128) / 256 = k by omega]
  refine congrArg (W (back k c)) (funext fun a => Fin.ext ?_)
  fin_cases a
  · show ((i 0).val - 128) % 256 = (x 0).val; omega
  · show (i 1).val = _; rw [h1]; exact Nat.zero_add _

/-- What the stacked-matrix buffer of device c holds when everything has arrived. -/
def wFull (c : Dev nD) : Buf (Elt F) ((c : Thread nD τ).loc cc0_scratch0) :=
  stack (k0_pay4 (k0_pay3 (sstg m ρ c))) (fun c' => k0_pay2 (estg m ρ c')) c

/-- The shares of the own slab: one is kept to read from, three are lent to the transfers. -/
abbrev qKeep : PosShare TreeShare := fullShare.left
abbrev qLend (o : Fin 3) : PosShare TreeShare := Ring.shares3 fullShare.right o

/-- Writing the own slab: the buffer agrees with `wFull c` on those rows. -/
theorem write_own (c : Dev nD) (f : Buf (Elt F) ((c : Thread nD τ).loc cc0_scratch0)) : ∀ i ∈ ownR.set,
    ((wM.access ownR : View sig .tc _ _ _).write (Elt F) f (k0_pay2 (estg m ρ c)) Finset.univ) i = wFull m ρ c i := by
  intro i hi
  obtain ⟨x, hx⟩ := View.exists_emb_of_mem_set (wM.access ownR) (i := i) (by rw [show (wM.access ownR).set = ownR.set from View.set_slice_whole _ _]; exact hi)
  rw [← hx, View.write_emb_of_mem _ _ (Finset.mem_univ _)]
  have h0 : ((wM.access ownR).emb x 0).val = 128 + (x 0).val := ValueKit.view_emb_slice_whole_unit_val cc0_scratch0 _ _ _ x 0
  have h1 : ((wM.access ownR).emb x 1).val = 0 + (x 1).val := ValueKit.view_emb_slice_whole_unit_val cc0_scratch0 _ _ _ x 1
  have h := stack_slab (k0_pay4 (k0_pay3 (sstg m ρ c))) (fun c' => k0_pay2 (estg m ρ c')) c 0 _ x h0 h1
  rw [back_zero] at h
  exact h.symm

/-- Writing the shared matrix: the buffer agrees with `wFull c` on the top rows. -/
theorem write_top (c : Dev nD) (f : Buf (Elt F) ((c : Thread nD τ).loc cc0_scratch0)) : ∀ i ∈ topR.set,
    ((wM.access topR : View sig .tc _ _ _).write (Elt F) f (k0_pay4 (k0_pay3 (sstg m ρ c))) Finset.univ) i = wFull m ρ c i := by
  intro i hi
  obtain ⟨x, hx⟩ := View.exists_emb_of_mem_set (wM.access topR) (i := i) (by rw [show (wM.access topR).set = topR.set from View.set_slice_whole _ _]; exact hi)
  rw [← hx, View.write_emb_of_mem _ _ (Finset.mem_univ _)]
  have h0 : ((wM.access topR).emb x 0).val = 0 + (x 0).val := ValueKit.view_emb_slice_whole_unit_val cc0_scratch0 _ _ _ x 0
  have h1 : ((wM.access topR).emb x 1).val = 0 + (x 1).val := ValueKit.view_emb_slice_whole_unit_val cc0_scratch0 _ _ _ x 1
  exact (stack_top (k0_pay4 (k0_pay3 (sstg m ρ c))) (fun c' => k0_pay2 (estg m ρ c')) c _ x h0 h1).symm

/-- Device c's own slab and slot o of the device o + 1 places after it hold the same, index by index. -/
theorem slot_own (o : Fin 3) (c : Dev nD) (x : S256x256.Idx) :
    wFull m ρ (peer o c) ((slotM o).view.emb x) = wFull m ρ c (ownM.view.emb x) := by
  have h0 : ((slotM o).view.emb x 0).val = 384 + 256 * o.val + (x 0).val := ValueKit.view_emb_slice_whole_unit_val cc0_scratch0 _ _ _ x 0
  have h1 : ((slotM o).view.emb x 1).val = 0 + (x 1).val := ValueKit.view_emb_slice_whole_unit_val cc0_scratch0 _ _ _ x 1
  have g0 : (ownM.view.emb x 0).val = 128 + (x 0).val := ValueKit.view_emb_slice_whole_unit_val cc0_scratch0 _ _ _ x 0
  have g1 : (ownM.view.emb x 1).val = 0 + (x 1).val := ValueKit.view_emb_slice_whole_unit_val cc0_scratch0 _ _ _ x 1
  have h := stack_slab (k0_pay4 (k0_pay3 (sstg m ρ (peer o c)))) (fun c' => k0_pay2 (estg m ρ c')) (peer o c) (o.val + 1) _ x
    (h0.trans (by omega)) h1
  have g := stack_slab (k0_pay4 (k0_pay3 (sstg m ρ c))) (fun c' => k0_pay2 (estg m ρ c')) c 0 _ x g0 g1
  rw [back_peer] at h
  rw [back_zero] at g
  exact h.trans g.symm

/-- What transfer o of device c leaves in slot o of the device it goes to is what `wFull` says of it. -/
theorem write_slot (o : Fin 3) (c : Dev nD) (f : Buf (Elt F) ((peer o c : Thread nD τ).loc cc0_scratch0)) : ∀ i ∈ (slotR o).set,
    ((slotM o).view.write (Elt F) f (ownM.view.read (Elt F) (wFull m ρ c)) Finset.univ) i = wFull m ρ (peer o c) i := by
  intro i hi
  obtain ⟨x, hx⟩ := View.exists_emb_of_mem_set (slotM o).view (i := i) (by rw [slot_set]; exact hi)
  rw [← hx, View.write_emb_of_mem _ _ (Finset.mem_univ _)]
  exact (slot_own m ρ o c x).symm

/-! ## The schedule -/

/-- What duty o of c's barrier cell hands c: the payer's landing slot that c's transfer will write, and that the payer
    has reached round 0 of that slot's receive cell. -/
def barPay (o : Fin 3) (c : Dev nD) : sProp 𝕄 :=
  iprop((∃ f, wPts (peer (rev o) c) (slotR (rev o)).set fullShare f) ∗ reached EX (recvCell (rev o) (peer (rev o) c)) 0)
/-- What receive cell o hands c: slot o, filled. -/
def recvPay (o : Fin 3) (c : Dev nD) : sProp 𝕄 := wPts c (slotR o).set fullShare (wFull m ρ c)
/-- What send cell o hands c back: the share of its own slab it lent. -/
def sendPay (o : Fin 3) (c : Dev nD) : sProp 𝕄 := wPts c ownR.set (qLend o) (wFull m ρ c)

omit [FloatOps F] in
instance barPay_storable (o : Fin 3) (c : Dev nD) : BI.Storable (upEmb : UEmb _ 𝕄) (barPay (F := F) o c) := by unfold barPay; infer_instance
instance recvPay_storable (o : Fin 3) (c : Dev nD) : BI.Storable (upEmb : UEmb _ 𝕄) (recvPay m ρ o c) := by unfold recvPay; infer_instance
instance sendPay_storable (o : Fin 3) (c : Dev nD) : BI.Storable (upEmb : UEmb _ 𝕄) (sendPay m ρ o c) := by unfold sendPay; infer_instance

/-- A number below three. -/
abbrev three (n : ℕ) : Fin 3 := ⟨n % 3, Nat.mod_lt _ (by decide)⟩

/-- The duties of one semaphore: three of a barrier, one of a transfer's. -/
def dutiesOf : SemLoc sig → Finset (Fin 3)
  | .reg _ => Finset.univ
  | .dma q => if 6 ≤ (q : Fin 12).val then {0} else ∅

/-- One round per cell: the three signals of a barrier cell, the one transfer of a send or receive cell. -/
def Rd : Rounds.Schedule (GSem nD τ sig) (Fin 3) 𝕄 where
  duties g r := if r = 0 ∧ g.1.2 = .tc then dutiesOf g.2 else ∅
  unitless _ := False
  amount g _ _ := match g.2 with
    | .reg _ => 1
    | .dma _ => N
  payload g _ d := match g.2 with
    | .reg _ => barPay d g.1.1
    | .dma q => if (q : Fin 12).val < 9 then sendPay m ρ (three (q : Fin 12).val) g.1.1 else recvPay m ρ (three (q : Fin 12).val) g.1.1
  amount_pos g _ _ _ := by
    rcases g.2 with q | q
    · exact Nat.one_pos
    · exact N_pos

instance Rd_payload_storable (g : GSem nD τ sig) (r : ℕ) (d : Fin 3) : BI.Storable (upEmb : UEmb _ 𝕄) ((Rd m ρ).payload g r d) := by
  obtain ⟨t, s⟩ := g
  cases s with
  | reg _ => exact barPay_storable d t.1
  | dma q =>
    show BI.Storable upEmb (if (q : Fin 12).val < 9 then sendPay m ρ (three (q : Fin 12).val) t.1 else recvPay m ρ (three (q : Fin 12).val) t.1)
    split <;> infer_instance

section Sched
variable (o : Fin 3) (c : Dev nD)

theorem duties_bar : (Rd m ρ).duties (barCell c) 0 = Finset.univ := by
  dsimp only [Rd]; exact if_pos ⟨rfl, rfl⟩
theorem duties_send : (Rd m ρ).duties (sendCell o c) 0 = {0} := by
  dsimp only [Rd]; rw [if_pos ⟨rfl, rfl⟩]; exact if_pos (by show 6 ≤ 6 + o.val; omega)
theorem duties_recv : (Rd m ρ).duties (recvCell o c) 0 = {0} := by
  dsimp only [Rd]; rw [if_pos ⟨rfl, rfl⟩]; exact if_pos (by show 6 ≤ 9 + o.val; omega)
theorem duties_later (g : GSem nD τ sig) : ∀ r, 1 ≤ r → (Rd m ρ).duties g r = ∅ :=
  fun r hr => if_neg fun h => by omega

theorem amount_bar (d : Fin 3) : (Rd m ρ).amount (barCell c) 0 d = 1 := rfl
theorem amount_send (d : Fin 3) : (Rd m ρ).amount (sendCell o c) 0 d = N := rfl
theorem amount_recv (d : Fin 3) : (Rd m ρ).amount (recvCell o c) 0 d = N := rfl

theorem expect_bar : (Rd m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (Rd m ρ).expect (sendCell o c) 0 = N := by
  unfold Schedule.expect Schedule.amountOf; rw [duties_send, Finset.sum_singleton, amount_send]
theorem expect_recv : (Rd m ρ).expect (recvCell o c) 0 = N := by
  unfold Schedule.expect Schedule.amountOf; rw [duties_recv, Finset.sum_singleton, amount_recv]

theorem payload_bar (d : Fin 3) : (Rd m ρ).payload (barCell c) 0 d = barPay d c := rfl
theorem payload_send (d : Fin 3) : (Rd m ρ).payload (sendCell o c) 0 d = sendPay m ρ o c := by
  have h : three (6 + o.val) = o := by revert o; decide
  dsimp only [Rd]
  rw [if_pos (by show 6 + o.val < 9; omega)]
  show sendPay m ρ (three (6 + o.val)) c = _
  rw [h]
theorem payload_recv (d : Fin 3) : (Rd m ρ).payload (recvCell o c) 0 d = recvPay m ρ o c := by
  have h : three (9 + o.val) = o := by revert o; decide
  dsimp only [Rd]
  rw [if_neg (by show ¬ 9 + o.val < 9; omega)]
  show recvPay m ρ (three (9 + o.val)) c = _
  rw [h]

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What a whole round of each kind of cell hands over. -/
theorem rest_bar : bigSep ((Rd m ρ).duties (barCell c) 0 \ ∅) (fun d => (Rd m ρ).payload (barCell c) 0 d) = iprop(barPay 0 c ∗ barPay 1 c ∗ barPay 2 c) := by
  rw [Finset.sdiff_empty, duties_bar, bigSep_fin3, payload_bar, payload_bar, payload_bar]
theorem rest_send : bigSep ((Rd m ρ).duties (sendCell o c) 0 \ ∅) (fun d => (Rd m ρ).payload (sendCell o c) 0 d) = sendPay m ρ o c := by
  rw [Finset.sdiff_empty, duties_send, bigSep_singleton, payload_send]
theorem rest_recv : bigSep ((Rd m ρ).duties (recvCell o c) 0 \ ∅) (fun d => (Rd m ρ).payload (recvCell o c) 0 d) = recvPay m ρ o c := by
  rw [Finset.sdiff_empty, duties_recv, bigSep_singleton, payload_recv]

end Sched

/-! ## What each device owes at launch, and the levels -/

/-- The three transfers' credits, in the order in which they are paid off (the last summand first). -/
def Or3 (c : Dev nD) : CellTallies nD τ sig Unit := tallyAt (recvCell 2 (peer 2 c)) () N
def Or2 (c : Dev nD) : CellTallies nD τ sig Unit := Or3 c + tallyAt (recvCell 1 (peer 1 c)) () N
def Or1 (c : Dev nD) : CellTallies nD τ sig Unit := Or2 c + tallyAt (recvCell 0 (peer 0 c)) () N
/-- And before them the three signals. -/
def Ob2 (c : Dev nD) : CellTallies nD τ sig Unit := Or1 c + tallyAt (barCell (peer 2 c)) () 1
def Ob1 (c : Dev nD) : CellTallies nD τ sig Unit := Ob2 c + tallyAt (barCell (peer 1 c)) () 1
def O₀ (c : Dev nD) : CellTallies nD τ sig Unit := Ob1 c + tallyAt (barCell (peer 0 c)) () 1

def L (g : GSem nD τ sig) : Finset Unit := if g.1.2 = .tc then {()} else ∅
/-- Barrier cells at level 1, receive cells at 2, staging and send cells at 0. -/
def lvOf : SemLoc sig → ℕ
  | .reg _ => 1
  | .dma q => if 9 ≤ (q : Fin 12).val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (o : Fin 3) (c : Dev nD) (u : Unit) : lv (recvCell o c) u = 2 := if_pos (by show 9 ≤ 9 + o.val; omega)
theorem lv_bar (c : Dev nD) (u : Unit) : lv (barCell c) u = 1 := rfl

theorem Or1_pos {c : Dev nD} {g : GSem nD τ sig} {u : Unit} (h : 0 < Or1 c g u) : ∃ o, g = recvCell o (peer o c) := by
  unfold Or1 Or2 Or3 at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ o, g = recvCell o (peer o c)) ∨ ∃ o, g = barCell (peer o c) := by
  unfold O₀ Ob1 Ob2 at h
  rw [Pi.add_apply, Finsupp.add_apply, Pi.add_apply, Finsupp.add_apply, Pi.add_apply, Finsupp.add_apply, tallyAt_apply, tallyAt_apply, tallyAt_apply] at h
  by_cases hb : ∃ o, g = barCell (peer o c)
  · exact .inr hb
  · rw [not_exists] at hb
    rw [if_neg (fun h' => hb 2 h'.1), if_neg (fun h' => hb 1 h'.1), if_neg (fun h' => hb 0 h'.1)] at h
    exact .inl (Or1_pos h)

omit [FloatOps F] in
/-- The pipeline's own waits, on staging cells, are below everything a device owes. -/
theorem mayWait_stage (c : Dev nD) (q : DmaSem sig) (hq : lvOf (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ <;> exact Finset.mem_singleton_self _)
      (fun p hp => by rw [Finset.mem_singleton.mp hp]; exact hq.le)
      (fun g u hg => by
        rcases O₀_pos hg with ⟨o, rfl⟩ | ⟨o, rfl⟩
        · rw [lv_recv]; decide
        · rw [lv_bar]; decide)
  · rw [MayWait_zero]; iintro -; iempintro

omit [FloatOps F] in
/-- At its barrier wait a device owes the three transfers' credits only, above its barrier cell. -/
theorem mayWait_bar (c : Dev nD) : (levAts L lv : sProp 𝕄) ⊢ MayWait (c : Thread nD τ) (.reg barS) () (Or1 c) :=
  MayOwe.of_cut (L := L) (lev := lv) 1 (fun p hp => by rw [Finset.mem_singleton.mp hp, L_tc]; exact Finset.mem_singleton_self _)
    (fun g u hg => by obtain ⟨o, rfl⟩ := Or1_pos hg; rw [L_tc]; exact Finset.mem_singleton_self _)
    (fun p hp => by rw [Finset.mem_singleton.mp hp]; exact (lv_bar c ()).le)
    (fun g u hg => by obtain ⟨o, rfl⟩ := Or1_pos hg; rw [lv_recv]; decide)

end Cert.MoeProof

end
-- ==== Proof.Columns.lean ====
/-
# The gated tokens, column block by column block

The second scratch buffer of device c holds nine column blocks of 128: the device's tokens, then for every slab of the
stacked-matrix buffer and each of its two experts the tokens routed to that expert, scaled by their probability, and zero
in the other rows. The kernel stores the blocks one after another; `xcat c` is what the buffer holds after the ninth, and
`outAt c` the product the kernel stores as its result.
-/
module

public import proofs.«01_k».proof.Proof.Protocol

@[expose] public section

noncomputable section

namespace Cert.MoeProof

open Cert.KernelIdeal Cert.KernelIdeal.Gen

open Idealize.ShloMosaic
open Idealize.ShloMosaic.TcCoe

variable {F : FTy → Type} [FloatOps F]
variable (m : (ℓ : Loc nD τ sig) → Buf (Elt F) ℓ) (ρ : Dev nD → PrngReg)

/-! ## Nine column blocks, laid side by side -/

theorem col_inb (j : Fin 9) : ∀ a : Fin 2, (![0, 128 * j.val] : Fin 2 → ℕ) a + S256x128.size a ≤ S256x1152.size a := by
  revert j; decide

/-- Columns 128 j … 128 j + 127. -/
abbrev colR (j : Fin 9) : Rect S256x1152 := Rect.unit (s := S256x1152) ![0, 128 * j.val] S256x128.size (col_inb j)

set_option backward.proofsInPublic true in
/-- Nine blocks laid side by side. -/
def beside (f : Fin 9 → FVec F S256x128 .bf16) : FVec F S256x1152 .bf16 := fun i =>
  f ⟨(i 1).val / 128, by have h : (i 1).val < 1152 := (i 1).isLt; omega⟩
    (fun | 0 => (⟨(i 0).val, (i 0).isLt⟩ : Fin 256) | 1 => (⟨(i 1).val % 128, Nat.mod_lt _ (by decide)⟩ : Fin 128))

theorem beside_at (f : Fin 9 → FVec F S256x128 .bf16) (j : Fin 9) (i : S256x1152.Idx) (x : S256x128.Idx)
    (h0 : (i 0).val = 0 + (x 0).val) (h1 : (i 1).val = 128 * j.val + (x 1).val) : beside f i = f j x := by
  have hlt : (x 1).val < 128 := (x 1).isLt
  unfold beside
  have hj : (⟨(i 1).val / 128, by have h : (i 1).val < 1152 := (i 1).isLt; omega⟩ : Fin 9) = j := Fin.ext (by show _ / 128 = _; omega)
  rw [hj]
  refine congrArg (f j) (funext fun a => Fin.ext ?_)
  fin_cases a
  · show (i 0).val = _; rw [h0]; exact Nat.zero_add _
  · show (i 1).val % 128 = (x 1).val; omega

/-- The contents g agree with the first n blocks. -/
def Agree (f : Fin 9 → FVec F S256x128 .bf16) (n : ℕ) (g : (cc0_scratch1 : Ref sig .tc).ty.Contents (Elt F)) : Prop :=
  ∀ i : S256x1152.Idx, (i 1).val < 128 * n → g i = beside f i

theorem agree_zero (f : Fin 9 → FVec F S256x128 .bf16) (g : (cc0_scratch1 : Ref sig .tc).ty.Contents (Elt F)) : Agree f 0 g :=
  fun i h => absurd h (by omega)

/-- Storing block j over contents that agree with the blocks before it makes them agree with one block more. -/
theorem agree_step (f : Fin 9 → FVec F S256x128 .bf16) (j : Fin 9) {g : (cc0_scratch1 : Ref sig .tc).ty.Contents (Elt F)}
    (h : Agree f j.val g) : Agree f (j.val + 1) ((xM.access (colR j) : View sig .tc _ _ _).write (Elt F) g (f j) Finset.univ) := by
  intro i hi
  by_cases hm : i ∈ (xM.access (colR j)).set
  · obtain ⟨x, hx⟩ := View.exists_emb_of_mem_set (xM.access (colR j)) hm
    rw [← hx, View.write_emb_of_mem _ _ (Finset.mem_univ _)]
    have h0 : ((xM.access (colR j)).emb x 0).val = 0 + (x 0).val := ValueKit.view_emb_slice_whole_unit_val cc0_scratch1 _ _ _ x 0
    have h1 : ((xM.access (colR j)).emb x 1).val = 128 * j.val + (x 1).val := ValueKit.view_emb_slice_whole_unit_val cc0_scratch1 _ _ _ x 1
    exact (beside_at f j _ x h0 h1).symm
  · rw [View.write_of_not_mem _ _ _ hm]
    refine h i ?_
    by_contra hge
    refine hm ?_
    rw [show (xM.access (colR j)).set = (colR j).set from View.set_slice_whole _ _, Rect.mem_set_unit, Fin.forall_fin_two]
    have h0 : (i 0).val < 256 := (i 0).isLt
    show (0 ≤ _ ∧ _ < 0 + 256) ∧ (128 * j.val ≤ _ ∧ _ < 128 * j.val + 128)
    omega

theorem agree_all (f : Fin 9 → FVec F S256x128 .bf16) {g : (cc0_scratch1 : Ref sig .tc).ty.Contents (Elt F)} (h : Agree f 9 g) :
    g = beside f := funext fun i => h i (by have : (i 1).val < 1152 := (i 1).isLt; omega)

/-! ## What the kernel stores in them -/

/-- The device's number as the kernel computes it. -/
abbrev posW (c : Dev nD) : BitVec 32 := Scalar.remsi (Scalar.divsi (Dev.word c) 1#32) 4#32

/-- The tokens scaled by the probability of their routed expert. -/
def xg (c : Dev nD) : FVec F S256x128 .bf16 :=
  k0_pay12 (k0_pay5 (xstg m ρ c)) (k0_pay6 (F := F) (istg m ρ c)) (k0_pay7 (xstg m ρ c) (rstg m ρ c)) (k0_pay8 (xstg m ρ c) (istg m ρ c) (rstg m ρ c))
    (k0_pay9 (F := F) (istg m ρ c)) (k0_pay10 (xstg m ρ c) (rstg m ρ c))

/-- The nine blocks. -/
def colOf (c : Dev nD) : Fin 9 → FVec F S256x128 .bf16
  | 0 => k0_pay11 (k0_pay5 (xstg m ρ c))
  | 1 => k0_pay15 (xg m ρ c) (k0_pay13 (F := F)) (k0_pay14 (posW c) (k0_pay6 (F := F) (istg m ρ c)))
  | 2 => k0_pay16 (k0_pay6 (F := F) (istg m ρ c)) (xg m ρ c) (k0_pay13 (F := F)) (Scalar.remsi (Scalar.addi (Scalar.subi (posW c) 0#32) 4#32) 4#32)
  | 3 => k0_pay17 (posW c) (k0_pay6 (F := F) (istg m ρ c)) (xg m ρ c) (k0_pay13 (F := F))
  | 4 => k0_pay18 (posW c) (k0_pay6 (F := F) (istg m ρ c)) (xg m ρ c) (k0_pay13 (F := F))
  | 5 => k0_pay19 (posW c) (k0_pay6 (F := F) (istg m ρ c)) (xg m ρ c) (k0_pay13 (F := F))
  | 6 => k0_pay20 (posW c) (k0_pay6 (F := F) (istg m ρ c)) (xg m ρ c) (k0_pay13 (F := F))
  | 7 => k0_pay21 (posW c) (k0_pay6 (F := F) (istg m ρ c)) (xg m ρ c) (k0_pay13 (F := F))
  | 8 => k0_pay22 (k0_pay6 (F := F) (istg m ρ c)) (xg m ρ c) (k0_pay13 (F := F))
      (Scalar.muli (Scalar.remsi (Scalar.addi (Scalar.subi (posW c) 3#32) 4#32) 4#32) 2#32) 1#32

/-- The gated tokens of device c. -/
def xcat (c : Dev nD) : (cc0_scratch1 : Ref sig .tc).ty.Contents (Elt F) := beside (colOf m ρ c)

/-- The kernel's result on device c. -/
def outAt (c : Dev nD) : (cc0_stg5_0 : Ref sig .tc).ty.Contents (Elt F) := k0_pay1 (xcat m ρ c) (wFull m ρ c)

end Cert.MoeProof

end
-- ==== Proof.Steps.lean ====
/-
# The exchange's steps, each stated once for its number o

A signal, a transfer, the wait for an arrival and the wait for a departure, over the schedule of Proof/Protocol.lean: each
is proved for any o and any device c, so that the kernel's body uses one lemma three times.
-/
module

public import proofs.«01_k».proof.Proof.Columns

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device reads -/

/-- Every cell's invariant, under the names the launch allocated, and that every cell is in round 0 at least. -/
def records (K : Dev nD × Fin 7 → ℕ) : sProp 𝕄 :=
  iprop((bigSep Finset.univ fun ck : Dev nD × Fin 7 => cellInv EX (Rd m ρ) (K ck) (kcell ck))
    ∗ bigSep Finset.univ fun ck : Dev nD × Fin 7 => reached EX (kcell ck) 0)

instance records_persistent (K : Dev nD × Fin 7 → ℕ) : BI.Persistent (records m ρ K) := by unfold records; infer_instance

variable (K : Dev nD × Fin 7 → ℕ)

theorem inv_at (ck : Dev nD × Fin 7) : records m ρ K ⊢ cellInv EX (Rd m ρ) (K ck) (kcell ck) :=
  sep_elim_left.trans (bigSep_elim (Finset.mem_univ ck))
theorem reached_at (ck : Dev nD × Fin 7) : records m ρ K ⊢ reached EX (kcell ck) 0 :=
  sep_elim_right.trans (bigSep_elim (Finset.mem_univ ck))

theorem inv_bar (c : Dev nD) : records m ρ K ⊢ cellInv EX (Rd m ρ) (K (c, 0)) (barCell c) := inv_at m ρ K (c, 0)
theorem inv_send (o : Fin 3) (c : Dev nD) : records m ρ K ⊢ cellInv EX (Rd m ρ) (K (c, ks o)) (sendCell o c) := by
  rw [← kcell_send]; exact inv_at m ρ K (c, ks o)
theorem inv_recv (o : Fin 3) (c : Dev nD) : records m ρ K ⊢ cellInv EX (Rd m ρ) (K (c, kr o)) (recvCell o c) := by
  rw [← kcell_recv]; exact inv_at m ρ K (c, kr o)
theorem reached_bar (c : Dev nD) : records m ρ K ⊢ reached EX (barCell c) 0 := reached_at m ρ K (c, 0)
theorem reached_send (o : Fin 3) (c : Dev nD) : records m ρ K ⊢ reached EX (sendCell o c) 0 := by
  rw [← kcell_send]; exact reached_at m ρ K (c, ks o)
theorem reached_recv (o : Fin 3) (c : Dev nD) : records m ρ K ⊢ reached EX (recvCell o c) 0 := by
  rw [← kcell_recv]; exact reached_at m ρ K (c, kr o)

/-- What device c still owes, whatever it has waited for. -/
def owesAny (c : Dev nD) (O : CellTallies nD τ sig Unit) : sProp 𝕄 := iprop(∃ W, owes (c : Thread nD τ) O W)

/-! ## The steps -/

/-- Signal number o: device c's landing slot `rev o` goes to the device signalled. -/
theorem signal_step (o : Fin 3) (c n : Dev nD) (hn : n = peer o c) {k' : ℕ} (hk' : k' = 1) (O : CellTallies nD τ sig Unit)
    {α : Type} {Q : α → sProp 𝕄} {k : PUnit → Prog (TpuEff nD τ sig (Elt F) Λ₀ .tc) α} :
    iprop(records m ρ K ∗ owesAny c (O + tallyAt (barCell (peer o c)) () 1) ∗ dutyTok EX (barCell (peer o c)) 0 o
        ∗ (∃ f, wPts (F := F) c (slotR (rev o)).set fullShare f))
      ⊢ iprop((owesAny c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  unfold owesAny
  iintro ⟨#HR, ⟨%W, HO⟩, Ht, Hf⟩ Hk
  iapply (Rounds.wp_signal 𝒱₀ EX (Rd m ρ) (c : Thread nD τ) none (dst := (peer o c : Thread nD τ)) (κ := K (peer o c, 0))
      (d := o) (by rw [duties_bar]; exact Finset.mem_univ _) (amount_bar m ρ (peer o c) o) () O rfl) $$ [HO Ht Hf]
  · isplitr; · iapply (inv_bar m ρ K (peer o c)); iexact HR
    isplitl [HO]; · iexact HO
    isplitl [Ht]; · iexact Ht
    isplitl [Hf]
    · rw [payload_bar]; unfold barPay; rw [peer_rev_peer]
      isplitl [Hf]; · iexact Hf
      iapply (reached_recv m ρ K (rev o) c); iexact HR
    · iapply (reached_bar m ρ K (peer o c)); iexact HR
  iintro HO
  iapply Hk
  iexists W; iexact HO

/-- The barrier wait: the three landing slots this device's transfers write. -/
theorem barrier_step (c : Dev nD) {k' : ℕ} (hk' : k' = 3)
    {α : Type} {Q : α → sProp 𝕄} {k : PUnit → Prog (TpuEff nD τ sig (Elt F) Λ₀ .tc) α} :
    iprop(records m ρ K ∗ levAts L lv ∗ cred (tallyAt (barCell c) () 3) ∗ owesAny c (Or1 c) ∗ atPos EX (barCell c) 0 ∅ 0)
      ⊢ iprop(((owesAny c (Or1 c) ∗ semVal (barCell c) 0
              ∗ (∃ f, wPts (F := F) (peer 0 c) (slotR 0).set fullShare f) ∗ (∃ f, wPts (F := F) (peer 1 c) (slotR 1).set fullShare f)
              ∗ (∃ f, wPts (F := F) (peer 2 c) (slotR 2).set fullShare f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesAny
  iintro ⟨#HR, #Hlev, Hc, ⟨%W, HO⟩, Hat⟩ Hk
  iapply (Rounds.wp_wait_rest_token 𝒱₀ EX (Rd m ρ) (c : Thread nD τ) none (κ := K (c, 0))
      (wpE_semWait_eq 𝒱₀ (c : Thread nD τ) none Set.univ) (Set.mem_univ _) () (O := Or1 c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  unfold barPay
  icases Hp with ⟨⟨H2, -⟩, ⟨H1, -⟩, H0, -⟩
  imod (Rounds.cell_close EX (Rd m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexists _; iexact HO
  isplitl [Hz]; · iexact Hz
  isplitl [H0]; · iexact H0
  isplitl [H1]; · iexact H1
  iexact H2

theorem own_loc (c : Dev nD) (q : PosShare TreeShare) (f : Buf (Elt F) ((c : Thread nD τ).loc cc0_scratch0)) :
    (ownM.view.loc (c : Thread nD τ) ↦[ownM.view.set]{q} f : sProp 𝕄) = wPts c ownR.set q f := by rw [own_set]
theorem slot_loc (o : Fin 3) (c : Dev nD) (q : PosShare TreeShare) (f : Buf (Elt F) ((c : Thread nD τ).loc cc0_scratch0)) :
    ((slotM o).view.loc (c : Thread nD τ) ↦[(slotM o).view.set]{q} f : sProp 𝕄) = wPts c (slotR o).set q f := by rw [slot_set]

/-- Transfer number o: a lent share of the own slab, and the slot on the other device, in exchange for a claim on the own
    send cell. -/
theorem send_step (o : Fin 3) (c n : Dev nD) (hn : n = peer o c) {s r : DmaSem sig} (hs : s = sendS o) (hr : r = recvS o)
    {src dst : Memref sig .tc .vmem S256x256 .bf16} (hsM : src = ownM) (hdM : dst = slotM o)
    {hsc : (dst : Memref sig (Dev.tc n : Thread nD τ).2.kind .vmem S256x256 .bf16).view.ref.isScScratch = false}
    {hsrc : src.view.WordExact} {hdst : dst.view.WordExact}
    {hsem : DmaTarget.Typed .vmem (.dma r) (.remote (Dev.tc n : Thread nD τ) dst (.dma s) hsc)}
    (O : CellTallies nD τ sig Unit)
    {α : Type} {Q : α → sProp 𝕄} {k : PUnit → Prog (TpuEff nD τ sig (Elt F) Λ₀ .tc) α} :
    iprop(records m ρ K ∗ wPts c ownR.set (qLend o) (wFull m ρ c) ∗ (∃ f, wPts (F := F) (peer o c) (slotR o).set fullShare f)
        ∗ owesAny c (O + tallyAt (recvCell o (peer o c)) () N) ∗ dutyTok EX (sendCell o c) 0 0 ∗ dutyTok EX (recvCell o (peer o c)) 0 0)
      ⊢ iprop(((cred (tallyAt (sendCell o c) () N) ∗ owesAny c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s) hsc) (.dma r) hsrc hdst hsem) k) Q) := by
  subst hn hs hr hsM hdM
  unfold owesAny
  iintro ⟨#HR, Hsrc, ⟨%f, Hdst⟩, ⟨%W, HO⟩, Hts, Htr⟩ Hk
  ihave Hsrc := (Entails.of_eq (own_loc c (qLend o) (wFull m ρ c)).symm) $$ Hsrc
  ihave Hdst := (Entails.of_eq (slot_loc o (peer o c) fullShare f).symm) $$ Hdst
  iapply (Rounds.wp_send_pointsTo 𝒱₀ EX (Rd m ρ) (c : Thread nD τ) none (κ₁ := K (c, ks o)) (κ₂ := K (peer o c, kr o))
    (r₁ := 0) (r₂ := 0) (d₁ := 0) (d₂ := 0) (fd := f)
    (by rw [duties_send]; exact Finset.mem_singleton_self _) (by rw [duties_recv]; exact Finset.mem_singleton_self _)
    () () N (show (slotM o).view.amount (.dma (recvS o)) = N from N_slot o) (amount_send m ρ o c 0) (amount_recv m ρ o (peer o c) 0) O rfl (W := W)
    (by rw [payload_send]; unfold sendPay; exact Entails.of_eq (own_loc c (qLend o) (wFull m ρ c)))
    (by rw [payload_recv, slot_loc o (peer o c)]; unfold recvPay; exact Entails.of_eq (pointsTo_congr (write_slot m ρ o c f)))) $$ [Hsrc Hdst HO Hts Htr]
  · isplitr; · iapply (inv_send m ρ K o c); iexact HR
    isplitr; · iapply (inv_recv m ρ K o (peer o c)); iexact HR
    isplitl [Hsrc]; · iexact Hsrc
    isplitl [Hdst]; · iexact Hdst
    isplitl [HO]; · iexact HO
    isplitl [Hts]; · iexact Hts
    isplitr; · iapply (reached_send m ρ K o c); iexact HR
    isplitl [Htr]; · iexact Htr
    iapply (reached_recv m ρ K o (peer o c)); iexact HR
  iintro ⟨Hc, HO⟩
  iapply Hk
  isplitl [Hc]; · iexact Hc
  iexists W; iexact HO

/-- The wait for arrival number o: slot o, filled, and the receive cell closed. -/
theorem recv_step (o : Fin 3) (c : Dev nD) {r : DmaSem sig} (hr : r = recvS o) {src dst : Memref sig .tc .vmem S256x256 .bf16}
    (hN : dst.view.dmaCredit = N) {hsrc : src.view.WordExact} {hdst : dst.view.WordExact}
    {α : Type} {Q : α → sProp 𝕄} {k : PUnit → Prog (TpuEff nD τ sig (Elt F) Λ₀ .tc) α} :
    iprop(records m ρ K ∗ cred (tallyAt (recvCell o c) () N) ∗ owesAny c 0 ∗ atPos EX (recvCell o c) 0 ∅ 0)
      ⊢ iprop(((owesAny c 0 ∗ semVal (recvCell o c) 0 ∗ wPts c (slotR o).set fullShare (wFull m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hsrc hdst) k) Q) := by
  subst hr
  unfold owesAny
  iintro ⟨#HR, Hc, ⟨%W, HO⟩, Hat⟩ Hk
  iapply (Rounds.wp_wait_rest_token 𝒱₀ EX (Rd m ρ) (c : Thread nD τ) none (κ := K (c, kr o))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_recv m ρ K o c); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ o c)) $$ Hpay
  imod (Rounds.cell_close EX (Rd m ρ) (Set.mem_univ (K (c, kr o))) (fun h => h) (R := 0 + 1) (duties_later m ρ (recvCell o c))) $$ [Hat] with Hz
  · isplitr; · iapply (inv_recv m ρ K o c); iexact HR
    iexact Hat
  iapply Hk
  isplitl [HO]; · iexists _; iexact HO
  isplitl [Hz]; · iexact Hz
  unfold recvPay; iexact Hp

/-- The wait for departure number o: the lent share of the own slab, and the send cell closed. -/
theorem sent_step (o : Fin 3) (c : Dev nD) {s : DmaSem sig} (hs : s = sendS o) {src dst : Memref sig .tc .vmem S256x256 .bf16}
    (hN : dst.view.dmaCredit = N) {hsrc : src.view.WordExact} {hdst : dst.view.WordExact}
    {α : Type} {Q : α → sProp 𝕄} {k : PUnit → Prog (TpuEff nD τ sig (Elt F) Λ₀ .tc) α} :
    iprop(records m ρ K ∗ cred (tallyAt (sendCell o c) () N) ∗ owesAny c 0 ∗ atPos EX (sendCell o c) 0 ∅ 0)
      ⊢ iprop(((owesAny c 0 ∗ semVal (sendCell o c) 0 ∗ wPts c ownR.set (qLend o) (wFull m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold owesAny
  iintro ⟨#HR, Hc, ⟨%W, HO⟩, Hat⟩ Hk
  iapply (Rounds.wp_wait_rest_token 𝒱₀ EX (Rd m ρ) (c : Thread nD τ) none (κ := K (c, ks o))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_send m ρ K o c); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ o c)) $$ Hpay
  imod (Rounds.cell_close EX (Rd m ρ) (Set.mem_univ (K (c, ks o))) (fun h => h) (R := 0 + 1) (duties_later m ρ (sendCell o c))) $$ [Hat] with Hz
  · isplitr; · iapply (inv_send m ρ K o c); iexact HR
    iexact Hat
  iapply Hk
  isplitl [HO]; · iexists _; iexact HO
  isplitl [Hz]; · iexact Hz
  unfold sendPay; iexact Hp

end Cert.MoeProof

end
-- ==== Proof.Body.lean ====
/-
# The kernel's body on one device

`start c` is what device c's body begins with, `Φ₁ c` what it ends with; `sound_body` runs the body once, at a symbolic
device, from the one to the other: every landing slot is given away by a signal, filled by a transfer and taken back by
a wait, and the result buffer ends at `outAt c`.
-/
module

public import proofs.«01_k».proof.Proof.Steps
public import proofs.«01_k».proof.Proof.Gen.KernelIdeal.Points

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends with -/

/-- The tokens of the duties device c pays: its three signals, its three arrivals elsewhere, its three departures. -/
def payToks (c : Dev nD) : sProp 𝕄 :=
  iprop((bigSep Finset.univ fun o : Fin 3 => dutyTok EX (barCell (peer o c)) 0 o)
    ∗ (bigSep Finset.univ fun o : Fin 3 => dutyTok EX (recvCell o (peer o c)) 0 (0 : Fin 3))
    ∗ bigSep Finset.univ fun o : Fin 3 => dutyTok EX (sendCell o c) 0 (0 : Fin 3))

/-- The exchange's ghost state of device c: the records, its positions at round 0 of its seven cells, its tokens. -/
def ghost (K : Dev nD × Fin 7 → ℕ) (c : Dev nD) : sProp 𝕄 :=
  iprop(records m ρ K ∗ (bigSep Finset.univ fun k : Fin 7 => atPos EX (kcell (c, k)) 0 ∅ 0) ∗ payToks c)

/-- The credits device c waits with, from the launch. -/
def credits (c : Dev nD) : sProp 𝕄 :=
  iprop(cred (tallyAt (barCell c) () 3) ∗ bigSep Finset.univ fun o : Fin 3 => cred (tallyAt (recvCell o c) () N))

def start (c : Dev nD) : sProp 𝕄 := iprop((∃ K, ghost m ρ K c) ∗ credits c ∗ levAts L lv)

/-- The two scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Device c's seven counters, at zero. -/
def zeros (c : Dev nD) : sProp 𝕄 :=
  iprop(semVal (barCell c) 0 ∗ (bigSep Finset.univ fun o : Fin 3 => semVal (sendCell o c) 0) ∗ bigSep Finset.univ fun o : Fin 3 => semVal (recvCell o c) 0)

def Φ₀ (c : Dev nD) : sProp 𝕄 := iprop(start m ρ c ∗ scratch c)
def Φ₁ (c : Dev nD) : sProp 𝕄 := iprop(scratch c ∗ zeros c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => estg m ρ c
    | ⟨4, _⟩ => sstg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The sets the accesses touch -/

theorem own_sub : (wM.view).setOn ownR.toLoadRect.set ⊆ ownR.set := by
  intro i hi
  obtain ⟨x, hx, rfl⟩ := Finset.mem_map.mp hi
  exact hx
theorem top_sub : (wM.view).setOn topR.toLoadRect.set ⊆ topR.set := by
  intro i hi
  obtain ⟨x, hx, rfl⟩ := Finset.mem_map.mp hi
  exact hx
theorem own_store_sub : (wM.access ownR : View sig .tc _ _ _).setOn Finset.univ ⊆ ownR.set := by
  rw [View.setOn_univ, show (wM.access ownR).set = ownR.set from View.set_slice_whole _ _]
theorem top_store_sub : (wM.access topR : View sig .tc _ _ _).setOn Finset.univ ⊆ topR.set := by
  rw [View.setOn_univ, show (wM.access topR).set = topR.set from View.set_slice_whole _ _]

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem z2 : (![0, 0] : Fin 2 → Nat) = fun _ => 0 := funext fun a => by fin_cases a <;> rfl
theorem z3 : (![0, 0, 0] : Fin 3 → Nat) = fun _ => 0 := funext fun a => by fin_cases a <;> rfl

omit [FloatOps F] in
theorem read_x (f : (cc0_stg0_0 : Ref sig .tc).ty.Contents (Elt F)) :
    (Memref.whole cc0_stg0_0 : Memref sig .tc .vmem S256x128 .bf16).view.readAt (Elt F) (Rect.unit (s := S256x128) ![0, 0] S256x128.size inb_S256x128_S256x128_0_0).toLoadRect f = f :=
  Memref.readAt_unit_zero (Elt F) cc0_stg0_0 z2 _ f
omit [FloatOps F] in
theorem read_r (f : (cc0_stg1_0 : Ref sig .tc).ty.Contents (Elt F)) :
    (Memref.whole cc0_stg1_0 : Memref sig .tc .vmem S128x8 .bf16).view.readAt (Elt F) (Rect.unit (s := S128x8) ![0, 0] S128x8.size inb_S128x8_S128x8_0_0).toLoadRect f = f :=
  Memref.readAt_unit_zero (Elt F) cc0_stg1_0 z2 _ f
omit [FloatOps F] in
theorem read_i (f : (cc0_stg2_0 : Ref sig .tc).ty.Contents (Elt F)) :
    (Memref.whole cc0_stg2_0 : Memref sig .tc .vmem S256x1 .i32).view.readAt (Elt F) (Rect.unit (s := S256x1) ![0, 0] S256x1.size inb_S256x1_S256x1_0_0).toLoadRect f = f :=
  Memref.readAt_unit_zero (Elt F) cc0_stg2_0 z2 _ f
omit [FloatOps F] in
theorem read_e (f : (cc0_stg3_0 : Ref sig .tc).ty.Contents (Elt F)) :
    (Memref.whole cc0_stg3_0 : Memref sig .tc .vmem S2x128x256 .bf16).view.readAt (Elt F) (Rect.unit (s := S2x128x256) ![0, 0, 0] S2x128x256.size inb_S2x128x256_S2x128x256_0_0_0).toLoadRect f = f :=
  Memref.readAt_unit_zero (Elt F) cc0_stg3_0 z3 _ f
omit [FloatOps F] in
theorem read_s (f : (cc0_stg4_0 : Ref sig .tc).ty.Contents (Elt F)) :
    (Memref.whole cc0_stg4_0 : Memref sig .tc .vmem S128x256 .bf16).view.readAt (Elt F) (Rect.unit (s := S128x256) ![0, 0] S128x256.size inb_S128x256_S128x256_0_0).toLoadRect f = f :=
  Memref.readAt_unit_zero (Elt F) cc0_stg4_0 z2 _ f
omit [FloatOps F] in
theorem read_w (f : (cc0_scratch0 : Ref sig .tc).ty.Contents (Elt F)) :
    wM.view.readAt (Elt F) (Rect.unit (s := S1152x256) ![0, 0] S1152x256.size inb_S1152x256_S1152x256_0_0).toLoadRect f = f :=
  Memref.readAt_unit_zero (Elt F) cc0_scratch0 z2 _ f
omit [FloatOps F] in
theorem read_xcat (f : (cc0_scratch1 : Ref sig .tc).ty.Contents (Elt F)) :
    xM.view.readAt (Elt F) (Rect.unit (s := S256x1152) ![0, 0] S256x1152.size inb_S256x1152_S256x1152_0_0).toLoadRect f = f :=
  Memref.readAt_unit_zero (Elt F) cc0_scratch1 z2 _ f
omit [FloatOps F] in
theorem write_out (f w : (cc0_stg5_0 : Ref sig .tc).ty.Contents (Elt F)) :
    ((Memref.whole cc0_stg5_0 : Memref sig .tc .vmem S256x256 .f32).access (Rect.unit (s := S256x256) ![0, 0] S256x256.size inb_S256x256_S256x256_0_0) : View sig .tc _ _ _).write (Elt F) f w Finset.univ = w :=
  Memref.write_access_unit_zero_univ (Elt F) cc0_stg5_0 z2 _ f w

/-- The gated-token buffer holding its first n column blocks. -/
def cols (c : Dev nD) (n : ℕ) : sProp 𝕄 :=
  iprop(∃ g : (cc0_scratch1 : Ref sig .tc).ty.Contents (Elt F), ⌜Agree (colOf m ρ c) n g⌝ ∗ (((c : Thread nD τ).loc cc0_scratch1) ↦{fullShare} g))

/-- The store of column block j, behind the load of the same place whose value nothing uses. -/
theorem col_step (j : Fin 9) (c : Dev nD) (n n' : ℕ) (hn : n = j.val) (hn' : n' = j.val + 1) {h₁ : xM.view.LoadsAt (colR j).toLoadRect} {h₂ : (xM.access (colR j)).Stores Finset.univ}
    {h₃ : (Finset.univ : Finset (colR j).shape.Idx) = Finset.univ ∨ ∀ a, (colR j).stride a = 1}
    {α : Type} {Q : α → sProp 𝕄} {k : PUnit → Prog (TpuEff nD τ sig (Elt F) Λ₀ .tc) α} :
    cols m ρ c n ⊢ iprop((cols m ρ c n' -∗ wp frame (wpE (defs₀ (F := F)) 𝒱₀ (c : Thread nD τ) none) Set.univ (k ⟨⟩) Q)
        -∗ wp frame (wpE (defs₀ (F := F)) 𝒱₀ (c : Thread nD τ) none) Set.univ
            (.op (.load xM (colR j).toLoadRect h₁) fun _ => .op (.store xM (colR j) (colOf m ρ c j) Finset.univ h₂ h₃) k) Q) := by
  subst hn hn'
  unfold cols
  iintro ⟨%g, %hg, Hg⟩ Hk
  iapply (wp_load 𝒱₀ (c : Thread nD τ) none Set.univ (m := xM) (Finset.subset_univ _)) $$ Hg; iintro Hg
  iapply (wp_store 𝒱₀ (c : Thread nD τ) none Set.univ (m := xM) (r := colR j) (Mk := Finset.univ) (Finset.subset_univ _)) $$ Hg; iintro Hg
  iapply Hk
  iexists _
  isplitr; · ipureintro; exact agree_step (colOf m ρ c) j hg
  iexact Hg

/-! ## The body -/

section Body

variable (K : Dev nD × Fin 7 → ℕ)

abbrev stages (c : Dev nD) (out : sProp 𝕄) : sProp 𝕄 :=
  iprop((((c : Thread nD τ).loc cc0_stg0_0) ↦{fullShare} (xstg m ρ c)) ∗ (((c : Thread nD τ).loc cc0_stg1_0) ↦{fullShare} (rstg m ρ c))
    ∗ (((c : Thread nD τ).loc cc0_stg2_0) ↦{fullShare} (istg m ρ c)) ∗ (((c : Thread nD τ).loc cc0_stg3_0) ↦{fullShare} (estg m ρ c))
    ∗ (((c : Thread nD τ).loc cc0_stg4_0) ↦{fullShare} (sstg m ρ c)) ∗ out)

def bodyPre (c : Dev nD) : sProp 𝕄 :=
  iprop((ghost m ρ K c ∗ credits c ∗ levAts L lv ∗ scratch c) ∗ owesAny c (O₀ c)
    ∗ stages m ρ c iprop(∃ f : Buf (Elt F) ((c : Thread nD τ).loc cc0_stg5_0), ((c : Thread nD τ).loc cc0_stg5_0) ↦{fullShare} f))

def bodyPost (c : Dev nD) : sProp 𝕄 :=
  iprop(Φ₁ c ∗ owesAny c 0 ∗ stages m ρ c iprop(((c : Thread nD τ).loc cc0_stg5_0) ↦{fullShare} (outAt m ρ c)))

theorem Or3_eq (c : Dev nD) : Or3 c = 0 + tallyAt (recvCell 2 (peer 2 c)) () N := (zero_add _).symm

set_option maxHeartbeats 4000000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost payToks credits scratch
  simp only [bigSep_fin3, bigSep_fin7]
  iintro ⟨⟨⟨⟨#HR, ⟨HatB, HatS0, HatS1, HatS2, HatV0, HatV1, HatV2⟩, ⟨HtB0, HtB1, HtB2⟩, ⟨HtV0, HtV1, HtV2⟩, HtS0, HtS1, HtS2⟩,
      ⟨HcB, HcV0, HcV1, HcV2⟩, #Hlev, ⟨%fw, Hw⟩, ⟨%fx, Hxc⟩⟩, HO, Hx, Hr, Hi, He, Hs, ⟨%fo, Hout⟩⟩, Hk⟩
  ihave ⟨Htop, Hown, Hs0, Hs1, Hs2⟩ := (w_pieces c fullShare fw).1 $$ Hw
  unfold O₀
  iapply (signal_step m ρ K 0 c _ (dev1_eq c) (by decide) (Ob1 c)) $$ [HO HtB0 Hs2]
  · isplitr; · iexact HR
    isplitl [HO]; · iexact HO
    isplitl [HtB0]; · iexact HtB0
    iexists fw; iexact Hs2
  iintro HO
  unfold Ob1
  iapply (signal_step m ρ K 1 c _ (dev2_eq c) (by decide) (Ob2 c)) $$ [HO HtB1 Hs1]
  · isplitr; · iexact HR
    isplitl [HO]; · iexact HO
    isplitl [HtB1]; · iexact HtB1
    iexists fw; iexact Hs1
  iintro HO
  unfold Ob2
  iapply (signal_step m ρ K 2 c _ (dev3_eq c) (by decide) (Or1 c)) $$ [HO HtB2 Hs0]
  · isplitr; · iexact HR
    isplitl [HO]; · iexact HO
    isplitl [HtB2]; · iexact HtB2
    iexists fw; iexact Hs0
  iintro HO
  iapply (barrier_step m ρ K c (by decide)) $$ [HO HcB HatB]
  · isplitr; · iexact HR
    isplitr; · iexact Hlev
    isplitl [HcB]; · iexact HcB
    isplitl [HO]; · iexact HO
    iexact HatB
  iintro ⟨HO, HzB, Hp0, Hp1, Hp2⟩
  -- the own slab, rounded into the stacked matrices
  iapply (wp_load 𝒱₀ (c : Thread nD τ) none Set.univ (m := Memref.whole cc0_stg3_0) (Finset.subset_univ _)) $$ He; iintro He
  rw [read_e]
  iapply (wp_load 𝒱₀ (c : Thread nD τ) none Set.univ (m := wM) own_sub) $$ Hown; iintro Hown
  iapply (wp_store 𝒱₀ (c : Thread nD τ) none Set.univ (m := wM) (r := ownR) (Mk := Finset.univ) own_store_sub) $$ Hown; iintro Hown
  ihave Hown := (Entails.of_eq (pointsTo_congr (write_own m ρ c fw))) $$ Hown
  ihave ⟨HownL, HownR⟩ := (pointsTo_share (PosShare.mem_left_op_right fullShare)).1 $$ Hown
  ihave ⟨Hl0, Hl1, Hl2⟩ := (Ring.pointsTo_thirds _ _).1 $$ HownR
  -- the three transfers
  unfold Or1
  iapply (send_step m ρ K 0 c _ (dev4_eq c) rfl rfl rfl rfl (Or2 c)) $$ [HO Hl0 Hp0 HtS0 HtV0]
  · isplitr; · iexact HR
    isplitl [Hl0]; · iexact Hl0
    isplitl [Hp0]; · iexact Hp0
    isplitl [HO]; · iexact HO
    isplitl [HtS0]; · iexact HtS0
    iexact HtV0
  iintro ⟨HcS0, HO⟩
  unfold Or2
  iapply (send_step m ρ K 1 c _ (dev5_eq c) rfl rfl rfl rfl (Or3 c)) $$ [HO Hl1 Hp1 HtS1 HtV1]
  · isplitr; · iexact HR
    isplitl [Hl1]; · iexact Hl1
    isplitl [Hp1]; · iexact Hp1
    isplitl [HO]; · iexact HO
    isplitl [HtS1]; · iexact HtS1
    iexact HtV1
  iintro ⟨HcS1, HO⟩
  rw [Or3_eq]
  iapply (send_step m ρ K 2 c _ (dev6_eq c) rfl rfl rfl rfl 0) $$ [HO Hl2 Hp2 HtS2 HtV2]
  · isplitr; · iexact HR
    isplitl [Hl2]; · iexact Hl2
    isplitl [Hp2]; · iexact Hp2
    isplitl [HO]; · iexact HO
    isplitl [HtS2]; · iexact HtS2
    iexact HtV2
  iintro ⟨HcS2, HO⟩
  -- the shared matrix on top
  iapply (wp_load 𝒱₀ (c : Thread nD τ) none Set.univ (m := Memref.whole cc0_stg4_0) (Finset.subset_univ _)) $$ Hs; iintro Hs
  rw [read_s]
  iapply (wp_load 𝒱₀ (c : Thread nD τ) none Set.univ (m := wM) top_sub) $$ Htop; iintro Htop
  iapply (wp_store 𝒱₀ (c : Thread nD τ) none Set.univ (m := wM) (r := topR) (Mk := Finset.univ) top_store_sub) $$ Htop; iintro Htop
  ihave Htop := (Entails.of_eq (pointsTo_congr (write_top m ρ c fw))) $$ Htop
  -- tokens, routed experts, router
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg2_0) (Finset.subset_univ _)) $$ Hi; iintro Hi
  rw [read_i]
  iapply (wp_load 𝒱₀ (c : Thread nD τ) none Set.univ (m := Memref.whole cc0_stg1_0) (Finset.subset_univ _)) $$ Hr; iintro Hr
  rw [read_r]
  -- the nine column blocks
  ihave Hc : cols m ρ c 0 $$ [Hxc]
  · unfold cols
    iexists fx
    isplitr; · ipureintro; exact agree_zero _ _
    iexact Hxc
  iapply (col_step m ρ 0 c 0 1 rfl rfl) $$ Hc; iintro Hc
  iapply (col_step m ρ 1 c 1 2 rfl rfl) $$ Hc; iintro Hc
  iapply (col_step m ρ 2 c 2 3 rfl rfl) $$ Hc; iintro Hc
  iapply (col_step m ρ 3 c 3 4 rfl rfl) $$ Hc; iintro Hc
  iapply (col_step m ρ 4 c 4 5 rfl rfl) $$ Hc; iintro Hc
  iapply (col_step m ρ 5 c 5 6 rfl rfl) $$ Hc; iintro Hc
  iapply (col_step m ρ 6 c 6 7 rfl rfl) $$ Hc; iintro Hc
  iapply (col_step m ρ 7 c 7 8 rfl rfl) $$ Hc; iintro Hc
  iapply (col_step m ρ 8 c 8 9 rfl rfl) $$ Hc; iintro Hc
  unfold cols
  icases Hc with ⟨%g, %hg, Hxc⟩
  have hgx : g = xcat m ρ c := agree_all (colOf m ρ c) hg
  subst hgx
  -- the three arrivals
  iapply (recv_step m ρ K 0 c rfl (N_slot 0)) $$ [HO HcV0 HatV0]
  · isplitr; · iexact HR
    isplitl [HcV0]; · iexact HcV0
    isplitl [HO]; · iexact HO
    iexact HatV0
  iintro ⟨HO, HzV0, Hw0⟩
  iapply (recv_step m ρ K 1 c rfl (N_slot 1)) $$ [HO HcV1 HatV1]
  · isplitr; · iexact HR
    isplitl [HcV1]; · iexact HcV1
    isplitl [HO]; · iexact HO
    iexact HatV1
  iintro ⟨HO, HzV1, Hw1⟩
  iapply (recv_step m ρ K 2 c rfl (N_slot 2)) $$ [HO HcV2 HatV2]
  · isplitr; · iexact HR
    isplitl [HcV2]; · iexact HcV2
    isplitl [HO]; · iexact HO
    iexact HatV2
  iintro ⟨HO, HzV2, Hw2⟩
  -- the product, read at the kept share of every piece
  ihave ⟨HtL, HtR⟩ := (pointsTo_share (PosShare.mem_left_op_right fullShare)).1 $$ Htop
  ihave ⟨H0L, H0R⟩ := (pointsTo_share (PosShare.mem_left_op_right fullShare)).1 $$ Hw0
  ihave ⟨H1L, H1R⟩ := (pointsTo_share (PosShare.mem_left_op_right fullShare)).1 $$ Hw1
  ihave ⟨H2L, H2R⟩ := (pointsTo_share (PosShare.mem_left_op_right fullShare)).1 $$ Hw2
  ihave HwL := (w_pieces c fullShare.left (wFull m ρ c)).2 $$ [HtL HownL H0L H1L H2L]
  · isplitl [HtL]; · iexact HtL
    isplitl [HownL]; · iexact HownL
    isplitl [H0L]; · iexact H0L
    isplitl [H1L]; · iexact H1L
    iexact H2L
  iapply (wp_load 𝒱₀ (c : Thread nD τ) none Set.univ (m := xM) (Finset.subset_univ _)) $$ Hxc; iintro Hxc
  rw [read_xcat]
  iapply (wp_load 𝒱₀ (c : Thread nD τ) none Set.univ (m := wM) (Finset.subset_univ _)) $$ HwL; iintro HwL
  rw [read_w]
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := Rect.unit (s := S256x256) ![0, 0] S256x256.size inb_S256x256_S256x256_0_0) (Mk := Finset.univ) (Finset.subset_univ _)) $$ Hout; iintro Hout
  rw [write_out]
  -- the three departures
  iapply (sent_step m ρ K 0 c rfl rfl) $$ [HO HcS0 HatS0]
  · isplitr; · iexact HR
    isplitl [HcS0]; · iexact HcS0
    isplitl [HO]; · iexact HO
    iexact HatS0
  iintro ⟨HO, HzS0, Hl0⟩
  iapply (sent_step m ρ K 1 c rfl rfl) $$ [HO HcS1 HatS1]
  · isplitr; · iexact HR
    isplitl [HcS1]; · iexact HcS1
    isplitl [HO]; · iexact HO
    iexact HatS1
  iintro ⟨HO, HzS1, Hl1⟩
  iapply (sent_step m ρ K 2 c rfl rfl) $$ [HO HcS2 HatS2]
  · isplitr; · iexact HR
    isplitl [HcS2]; · iexact HcS2
    isplitl [HO]; · iexact HO
    iexact HatS2
  iintro ⟨HO, HzS2, Hl2⟩
  rw [wp_ret]; imodintro
  ihave HownR := (Ring.pointsTo_thirds _ _).2 $$ [Hl0 Hl1 Hl2]
  · isplitl [Hl0]; · iexact Hl0
    isplitl [Hl1]; · iexact Hl1
    iexact Hl2
  ihave HwR := (w_pieces c fullShare.right (wFull m ρ c)).2 $$ [HtR HownR H0R H1R H2R]
  · isplitl [HtR]; · iexact HtR
    isplitl [HownR]; · iexact HownR
    isplitl [H0R]; · iexact H0R
    isplitl [H1R]; · iexact H1R
    iexact H2R
  ihave Hw := (pointsTo_share (PosShare.mem_left_op_right fullShare)).2 $$ [HwL HwR]
  · isplitl [HwL]; · iexact HwL
    iexact HwR
  iapply Hk
  unfold bodyPost Φ₁ scratch zeros
  simp only [bigSep_fin3]
  isplitl [Hw Hxc HzB HzS0 HzS1 HzS2 HzV0 HzV1 HzV2]
  · isplitl [Hw Hxc]
    · isplitl [Hw]
      · iexists _; iexact Hw
      · iexists _; iexact Hxc
    isplitl [HzB]; · iexact HzB
    isplitl [HzS0 HzS1 HzS2]
    · isplitl [HzS0]; · iexact HzS0
      isplitl [HzS1] <;> iassumption
    · isplitl [HzV0]; · iexact HzV0
      isplitl [HzV1] <;> iassumption
  isplitl [HO]; · iexact HO
  isplitl [Hx]; · iexact Hx
  isplitl [Hr]; · iexact Hr
  isplitl [Hi]; · iexact Hi
  isplitl [He]; · iexact He
  isplitl [Hs]; · iexact Hs
  iexact Hout

/-! ## The pipeline's obligation -/

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- The obligation's two sides, window by window. -/
def obPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def obPost (c : Dev nD) : sProp 𝕄 :=
  iprop(Φ₁ c ∗ (dats m ρ 0 c).owesAt () t₀.succ ∗ stg c cc0_stg0_0 (xstg m ρ c) ∗ stg c cc0_stg1_0 (rstg m ρ c) ∗ stg c cc0_stg2_0 (istg m ρ c)
    ∗ stg c cc0_stg3_0 (estg m ρ c) ∗ stg c cc0_stg4_0 (sstg m ρ c) ∗ stg c cc0_stg5_0 (outAt m ρ c))

theorem before_0 (c : Dev nD) (d) : (dats m ρ 0 c).before (0 : Fin 6) t₀ d = xstg m ρ c := by unfold Dat.before; rw [if_pos (fetch0_0 t₀)]; rfl
theorem before_1 (c : Dev nD) (d) : (dats m ρ 0 c).before (1 : Fin 6) t₀ d = rstg m ρ c := by unfold Dat.before; rw [if_pos (fetch0_1 t₀)]; rfl
theorem before_2 (c : Dev nD) (d) : (dats m ρ 0 c).before (2 : Fin 6) t₀ d = istg m ρ c := by unfold Dat.before; rw [if_pos (fetch0_2 t₀)]; rfl
theorem before_3 (c : Dev nD) (d) : (dats m ρ 0 c).before (3 : Fin 6) t₀ d = estg m ρ c := by unfold Dat.before; rw [if_pos (fetch0_3 t₀)]; rfl
theorem before_4 (c : Dev nD) (d) : (dats m ρ 0 c).before (4 : Fin 6) t₀ d = sstg m ρ c := by unfold Dat.before; rw [if_pos (fetch0_4 t₀)]; rfl

theorem obPre_bodyPre (c : Dev nD) : obPre m ρ c ⊢ iprop(∃ K, bodyPre m ρ K c) := by
  unfold obPre Φ₀ start
  simp only [before_0, before_1, before_2, before_3, before_4]
  iintro ⟨⟨⟨⟨%K, Hg⟩, Hc, Hlev⟩, Hscr⟩, Ho, ⟨%d0, %g0, %hg0, H0⟩, ⟨%d1, %g1, %hg1, H1⟩, ⟨%d2, %g2, %hg2, H2⟩, ⟨%d3, %g3, %hg3, H3⟩,
    ⟨%d4, %g4, %hg4, H4⟩, ⟨%d5, %g5, %hg5, H5⟩⟩
  subst hg0 hg1 hg2 hg3 hg4
  unfold Dat.owesAt Pipeline.owesWithin
  icases Ho with ⟨%W, %hW, HO⟩
  rw [show (dats m ρ 0 c).owed t₀.castSucc = O₀ c from rfl]
  iexists K
  unfold bodyPre owesAny
  isplitl [Hg Hc Hlev Hscr]
  · isplitl [Hg]; · iexact Hg
    isplitl [Hc]; · iexact Hc
    isplitl [Hlev] <;> iassumption
  isplitl [HO]; · iexists W; iexact HO
  isplitl [H0]; · iexact H0
  isplitl [H1]; · iexact H1
  isplitl [H2]; · iexact H2
  isplitl [H3]; · iexact H3
  isplitl [H4]; · iexact H4
  iexists g5; iexact H5

theorem bodyPost_obPost (c : Dev nD) : bodyPost m ρ c ⊢ obPost m ρ c := by
  unfold bodyPost obPost owesAny
  iintro ⟨Hp, ⟨%W, HO⟩, H0, H1, H2, H3, H4, H5⟩
  isplitl [Hp]; · iexact Hp
  isplitl [HO]
  · unfold Dat.owesAt Pipeline.owesWithin
    rw [show (dats m ρ 0 c).owed t₀.succ = 0 from rfl]
    iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show obPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3)
    (fun _ => obPost m ρ c)
  iintro H
  ihave ⟨%K, Hp⟩ := (obPre_bodyPre m ρ c) $$ H
  iapply (sound_body m ρ K c fun _ => obPost m ρ c)
  isplitl [Hp]; · iexact Hp
  iintro Hq
  iapply (bodyPost_obPost m ρ c); iexact Hq

end Body

end Cert.MoeProof

end
-- ==== Proof.Run.lean ====
/-
# The launch: four devices, from any memory, to the computed results

Every device's seven cells are funded at round 0 and opened at once for all devices; the duty tokens are dealt to the
devices that pay them; the launch credit splits into each device's three barrier units and three arrivals. `run_main`
is the run, at any float values: it ends, with every counter at zero, every argument unchanged and device c's result at
`outAt c`.
-/
module

public import proofs.«01_k».proof.Proof.Body
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of one device's cells by kind (barrier, receive, send) and number: the semaphore and the duty. -/
abbrev dutyAt : Fin 3 × Fin 3 → SemLoc sig × Fin 3
  | (0, o) => (.reg barS, o) | (1, o) => (.dma (recvS o), 0) | (2, o) => (.dma (sendS o), 0)
theorem dutyAt_injective : Function.Injective dutyAt := by decide
abbrev tokOf (cx : Dev nD × Fin 3 × Fin 3) : GSem nD τ sig × ℕ × Fin 3 := (((cx.1 : Thread nD τ), (dutyAt cx.2).1), 0, (dutyAt cx.2).2)
theorem tokOf_injective : Function.Injective (tokOf : Dev nD × Fin 3 × Fin 3 → GSem nD τ sig × ℕ × Fin 3) := by
  rintro ⟨c, x⟩ ⟨c', x'⟩ h
  have h1 : c = c' := congrArg (fun g : GSem nD τ sig × ℕ × Fin 3 => g.1.1.1) h
  have h2 : x = x' := dutyAt_injective (Prod.ext (congrArg (fun g : GSem nD τ sig × ℕ × Fin 3 => g.1.2) h) (congrArg (fun g : GSem nD τ sig × ℕ × Fin 3 => g.2.2) h))
  rw [h1, h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of device c's own cells. -/
def toks (c : Dev nD) : sProp 𝕄 :=
  iprop((bigSep Finset.univ fun o : Fin 3 => dutyTok EX (barCell c) 0 o)
    ∗ (bigSep Finset.univ fun o : Fin 3 => dutyTok EX (recvCell o c) 0 (0 : Fin 3))
    ∗ bigSep Finset.univ fun o : Fin 3 => dutyTok EX (sendCell o c) 0 (0 : Fin 3))

/-- What the launch deals device c, and what the global step makes of it. -/
def G (c : Dev nD) : sProp 𝕄 :=
  iprop((bigSep Finset.univ fun k : Fin 7 => roundState EX (Rd m ρ) (kcell (c, k)) 0)
    ∗ (bigSep Finset.univ fun k : Fin 7 => iprop(atPos EX (kcell (c, k)) 0 ∅ 0 ∗ reached EX (kcell (c, k)) 0)) ∗ toks c)
def G' (c : Dev nD) : sProp 𝕄 := iprop(∃ K, ghost m ρ K c)

theorem fund_cells : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund EX (Rd m ρ) allCells allToks) $$ HX with ⟨Hst, Hr, Hat, Htok⟩
  imodintro
  ihave Hst' := (Entails.of_eq (hX fun g => roundState EX (Rd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own six semaphores; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- the runtime's barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : Fin 7 => semVal (kcell (c, k)) 0) ∗ bigSep Finset.univ fun k : Fin 7 => roundState EX (Rd m ρ) (kcell (c, k)) 0)
      ⊢ (|={Set.univ}=> bigSep Finset.univ fun k => iprop(∃ κ : ℕ, cellInv EX (Rd m ρ) κ (kcell (c, k))) : sProp 𝕄) from by
        rw [← bigSep_sep']
        exact (bigSep_mono fun k _ => (Rounds.body_intro EX (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to those who pay: barrier duty o and receive duty o of every device go o + 1 places back. -/
theorem toks_around : (bigSep Finset.univ fun c : Dev nD => (toks c : sProp 𝕄)) ⊢ bigSep Finset.univ fun c : Dev nD => payToks c := by
  have hb (o : Fin 3) := bigSep_univ_equiv (shift o) (fun c : Dev nD => (dutyTok EX (barCell c) 0 o : sProp 𝕄))
  have hr (o : Fin 3) := bigSep_univ_equiv (shift o) (fun c : Dev nD => (dutyTok EX (recvCell o c) 0 (0 : Fin 3) : sProp 𝕄))
  unfold toks payToks
  simp only [bigSep_sep', bigSep_fin3]
  rw [hb 0, hb 1, hb 2, hr 0, hr 1, hr 2]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv EX (Rd m ρ) κ (kcell ck))),
    bigSep_congr (s := Finset.univ) (fun (c : Dev nD) _ => bigSep_sep' Finset.univ (fun k : Fin 7 => (atPos EX (kcell (c, k)) 0 ∅ 0 : sProp 𝕄)) (fun k => reached EX (kcell (c, k)) 0)),
    bigSep_sep', ← bigSep_univ_prod (fun ck : Dev nD × Fin 7 => (reached EX (kcell ck) 0 : sProp 𝕄))]
  iintro ⟨HI, ⟨Hat, #HR⟩, Htok⟩
  ihave HK := (BI.bigSep_exists_pi Finset.univ (fun (ck : Dev nD × Fin 7) (κ : ℕ) => (cellInv EX (Rd m ρ) κ (kcell ck) : sProp 𝕄))) $$ HI
  icases HK with ⟨%K, #HI⟩
  ihave Htk := (toks_around (F := F)) $$ Htok
  iapply (with_persistent (R := records m ρ K)
    (Φ := fun c => iprop((bigSep Finset.univ fun k : Fin 7 => atPos EX (kcell (c, k)) 0 ∅ 0) ∗ payToks c)) fun c _ => by
      unfold G' ghost
      iintro H
      iexists K; iexact H)
  isplitr
  · unfold records; isplitl; · iexact HI
    iexact HR
  · rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => congrArg (fun g : GSem nD τ sig => g.1.1) h, fun h => h ▸ rfl⟩
theorem recvS_injective : Function.Injective (fun o : Fin 3 => (SemLoc.dma (recvS o) : SemLoc sig)) := by decide
theorem recv_eq_iff {o o' : Fin 3} {a b : Dev nD} : Iff (recvCell o a = recvCell o' b) (o = o' ∧ a = b) :=
  ⟨fun h => ⟨recvS_injective (congrArg Prod.snd h), congrArg (fun g : GSem nD τ sig => g.1.1) h⟩, fun ⟨h, h'⟩ => by rw [h, h']⟩
theorem recv_ne_bar {o : Fin 3} {a b : Dev nD} : recvCell o a ≠ barCell b := fun h => by cases congrArg Prod.snd h

/-- What device d owes device c's barrier cell, and its receive cells. -/
theorem owed_bar (d c : Dev nD) : O₀ d (barCell c) () = (if c = peer 2 d then 1 else 0) + (if c = peer 1 d then 1 else 0) + (if c = peer 0 d then 1 else 0) := by
  unfold O₀ Ob1 Ob2 Or1 Or2 Or3
  simp only [Pi.add_apply, Finsupp.add_apply, tallyAt_apply, recv_ne_bar.symm, bar_eq_iff, false_and, and_true, if_false, Nat.zero_add]
theorem owed_recv (o : Fin 3) (d c : Dev nD) : O₀ d (recvCell o c) () = if c = peer o d then N else 0 := by
  unfold O₀ Ob1 Ob2 Or1 Or2 Or3
  simp only [Pi.add_apply, Finsupp.add_apply, tallyAt_apply, recv_ne_bar, recv_eq_iff, false_and, and_true, if_false, Nat.add_zero]
  fin_cases o <;> simp

theorem units_bar (c : Dev nD) : (∑ d : Dev nD, ((if c = peer 2 d then 1 else 0) + (if c = peer 1 d then 1 else 0) + (if c = peer 0 d then 1 else 0))) = 3 := by
  revert c; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, units_bar]

theorem launch_recv (o : Fin 3) (c : Dev nD) :
    tallyOn (recvCell o c) (launchCredit (Pipeline.owing O₀) 0 (recvCell o c)) = (tallyAt (recvCell o c) () N : CellTallies nD τ sig Unit) := by
  unfold tallyAt; refine congrArg _ (Finsupp.ext fun u => ?_); cases u
  rw [Pipeline.launchCredit_owing, Finsupp.single_eq_same, Finset.sum_congr rfl fun d _ => owed_recv o d c,
    Finset.sum_eq_single (peer (rev o) c) (fun d _ hd => if_neg fun h => hd (by rw [h, peer_rev_peer])) (fun h => absurd (Finset.mem_univ _) h),
    if_pos (peer_peer_rev o c).symm]

def recvSems : Finset (SemLoc sig) := Finset.univ.map ⟨_, recvS_injective⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := recvSems) ?_).trans ?_
  · intro s hs
    obtain ⟨o, _, rfl⟩ := Finset.mem_map.mp hs
    exact Finset.mem_erase.mpr ⟨fun h => (by cases h), Finset.mem_univ _⟩
  · unfold recvSems
    rw [bigSep_map]
    exact bigSep_mono fun o _ => Entails.of_eq (congrArg cred (launch_recv o c))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  simp only [bigSep_fin3]
  iintro ⟨Hr, HzB, ⟨HS0, HS1, HS2⟩, HV0, HV1, HV2⟩
  isplitl [HzB]; · iexact HzB
  isplitl [HS0 HS1 HS2 HV0 HV1 HV2]
  · isplitl [HS0]; · iexact HS0
    isplitl [HS1]; · iexact HS1
    isplitl [HS2]; · iexact HS2
    isplitl [HV0]; · iexact HV0
    isplitl [HV1] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeProof

end
-- ==== Proof.Result.lean ====
/-
# What a run leaves in the arguments and in the result

No window is cut into blocks: a staging copy holds its whole argument, and the result array ends at `outAt c`.
-/
module

public import proofs.«01_k».proof.Proof.Run
public import Idealize.ShloMosaic.Lib.Claim

@[expose] public section

noncomputable section

namespace Cert.MoeProof

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The staging copy of the tokens is the argument itself. -/
theorem xstg_eq (c : Dev nD) : xstg m ρ c = m ((c : Thread nD τ).loc main_arg0) := by
  funext i
  unfold xstg
  exact congrArg (m ((c : Thread nD τ).loc main_arg0)) (funext fun a => Fin.ext (Pipeline.Window.rect_emb_val_of_index_zero win0_0 (0 : Fin 1) a rfl i))

/-- The staging copy of the router's matrix is the argument itself. -/
theorem rstg_eq (c : Dev nD) : rstg m ρ c = m ((c : Thread nD τ).loc main_arg1) := by
  funext i
  unfold rstg
  exact congrArg (m ((c : Thread nD τ).loc main_arg1)) (funext fun a => Fin.ext (Pipeline.Window.rect_emb_val_of_index_zero win0_1 (0 : Fin 1) a rfl i))

/-- The staging copy of the experts' numbers is the argument itself. -/
theorem istg_eq (c : Dev nD) : istg m ρ c = m ((c : Thread nD τ).loc main_arg2) := by
  funext i
  unfold istg
  exact congrArg (m ((c : Thread nD τ).loc main_arg2)) (funext fun a => Fin.ext (Pipeline.Window.rect_emb_val_of_index_zero win0_2 (0 : Fin 1) a rfl i))

/-- The staging copy of the device's two experts' matrices is the argument itself. -/
theorem estg_eq (c : Dev nD) : estg m ρ c = m ((c : Thread nD τ).loc main_arg3) := by
  funext i
  unfold estg
  exact congrArg (m ((c : Thread nD τ).loc main_arg3)) (funext fun a => Fin.ext (Pipeline.Window.rect_emb_val_of_index_zero win0_3 (0 : Fin 1) a rfl i))

/-- The staging copy of the shared expert's matrix is the argument itself. -/
theorem sstg_eq (c : Dev nD) : sstg m ρ c = m ((c : Thread nD τ).loc main_arg4) := by
  funext i
  unfold sstg
  exact congrArg (m ((c : Thread nD τ).loc main_arg4)) (funext fun a => Fin.ext (Pipeline.Window.rect_emb_val_of_index_zero win0_4 (0 : Fin 1) a rfl i))

/-- The result array holds what the body left in its staging copy. -/
theorem finalA_out (c : Dev nD) : finalA m ρ c (5 : Fin 6) = outAt m ρ c := by
  unfold finalA
  refine (dats m ρ 0 c).arrAt_eq_of_after_last (5 : Fin 6) t₀ (by decide +kernel) _ fun j => ?_
  blk_simp
  rfl

/-- An argument's array is what it was at launch. -/
theorem finalA_in (c : Dev nD) (w : Fin 6) (hw : (cfg0.win w).isOut = false) :
    finalA m ρ c w = (dats m ρ 0 c).A w := by
  unfold finalA
  exact (dats m ρ 0 c).arrAt_in w hw _

/-- Device c's five arguments are unchanged in memory m'. -/
abbrev Kept (m m' : (ℓ : Loc nD τ sig) → Buf (Elt F) ℓ) (c : Dev nD) : Prop :=
  m' ((c : Thread nD τ).loc main_arg0) = m ((c : Thread nD τ).loc main_arg0)
    ∧ m' ((c : Thread nD τ).loc main_arg1) = m ((c : Thread nD τ).loc main_arg1)
    ∧ m' ((c : Thread nD τ).loc main_arg2) = m ((c : Thread nD τ).loc main_arg2)
    ∧ m' ((c : Thread nD τ).loc main_arg3) = m ((c : Thread nD τ).loc main_arg3)
    ∧ m' ((c : Thread nD τ).loc main_arg4) = m ((c : Thread nD τ).loc main_arg4)

/-- THE KERNEL'S RUN: every weakly fair execution ends with `outAt c` in device c's result, every argument as it was
    and every counter at zero. -/
theorem run_main : θ_run defs (onTc (τ := τ) (main (F := F))) ⟨m, fun _ => 0, ρ⟩ (fun r =>
    (∀ c : Dev nD, r.2.mem ((c : Thread nD τ).loc main_v1) = outAt m ρ c ∧ Kept m r.2.mem c) ∧ r.2.sem = fun _ => 0) :=
  (θ_run defs _ _).mono (fun _ h => ⟨fun c => ⟨(h.1 c (5 : Fin 6)).trans (finalA_out m ρ c),
    (h.1 c (0 : Fin 6)).trans (finalA_in m ρ c 0 rfl), (h.1 c (1 : Fin 6)).trans (finalA_in m ρ c 1 rfl),
    (h.1 c (2 : Fin 6)).trans (finalA_in m ρ c 2 rfl), (h.1 c (3 : Fin 6)).trans (finalA_in m ρ c 3 rfl),
    (h.1 c (4 : Fin 6)).trans (finalA_in m ρ c 4 rfl)⟩, h.2⟩) (run_arrays m ρ)

end Cert.MoeProof

end
-- ==== Proof.Frames.lean ====
/-
# The frames

`Kernel` and `KernelIdeal` are one text read at two kinds of float values, so one run (`run_main`) gives both frames.
-/
module

public import proofs.«01_k».proof.Defs
public import proofs.«01_k».proof.Proof.Result
public import proofs.«01_k».proof.Proof.Gen.Kernel
public import proofs.«01_k».proof.Proof.Gen.ReferenceIdeal.Run

@[expose] public section

set_option maxRecDepth 4096

namespace Cert.MoeProof

open Idealize.ShloMosaic Idealize.SL.Sem

/-- The two programs' kernel tables are the same: one label, one body. -/
theorem bodies_eq : @Cert.Kernel.defs₀ Bits _ _ = @Cert.KernelIdeal.defs₀ Bits _ _ := by
  unfold Cert.Kernel.defs₀ Cert.KernelIdeal.defs₀
  refine congrArg Defs.onTc (funext fun l => funext fun x => ?_)
  rcases l with ⟨_ | n, h⟩
  · rfl
  · exact absurd h (by omega)

theorem tables_eq : @Cert.Kernel.defs Bits _ _ = @Cert.KernelIdeal.defs Bits _ _ := by
  unfold Cert.Kernel.defs Cert.KernelIdeal.defs
  rw [bodies_eq]
  rfl

/-- The kernel's frame, over the bit patterns. -/
theorem frame_kernel : Cert.quiescent_Kernel := by
  intro m ρ _
  rw [tables_eq]
  exact (θ_run Cert.KernelIdeal.defs _ _).mono (fun _ h => ⟨fun c => (h.1 c).2, h.2⟩) (run_main (F := Bits) m ρ)

/-- The same over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference's frame: no operation of it writes an argument and it declares no counter. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.MoeProof

end
-- ==== Proof.Softmax.lean ====
/-
# One token's softmax over the extended reals, and the product by a probability

`prob s k` is the probability of expert k under the scores s, as both programs compute it. With finite scores it is a
nonnegative real number, and a product by such a number distributes over every sum, infinite terms included.
-/
module

public import proofs.«01_k».proof.Proof.Result
public import Idealize.ShloMosaic.Lib.Pointwise

@[expose] public section

noncomputable section

namespace Cert.MoeProof

open Idealize.ShloMosaic

/-- An extended real that is neither infinity. -/
def Finite (x : EReal) : Prop := ∃ r : ℝ, x = r

/-- The greatest score, taken from minus infinity. -/
def top (s : Fin 8 → EReal) : EReal := Finset.fold max (Ideal.ofBits FTy.f32 0xFF800000#32) s Finset.univ

/-- The softmax of the scores s at expert k. -/
def prob (s : Fin 8 → EReal) (k : Fin 8) : EReal := Ideal.div (Ideal.exp (s k - top s)) (∑ j, Ideal.exp (s j - top s))

/-- The pattern the greatest score starts from is minus infinity. -/
theorem ofBits_lowest : Ideal.ofBits FTy.f32 0xFF800000#32 = ⊥ := by
  simp [Ideal.ofBits, Ideal.ieee]

/-- A sum of reals is real, -/
theorem finite_sum {ι : Type} (S : Finset ι) (f : ι → EReal) (h : ∀ i, Finite (f i)) : Finite (∑ i ∈ S, f i) := by
  classical
  induction S using Finset.induction_on with
  | empty => exact ⟨0, by simp⟩
  | insert a S ha ih =>
    obtain ⟨u, hu⟩ := ih
    obtain ⟨v, hv⟩ := h a
    exact ⟨v + u, by rw [Finset.sum_insert ha, hu, hv, EReal.coe_add]⟩

/-- and a product of two. -/
theorem finite_mul {x y : EReal} (hx : Finite x) (hy : Finite y) : Finite (x * y) := by
  obtain ⟨u, rfl⟩ := hx
  obtain ⟨v, rfl⟩ := hy
  exact ⟨u * v, by rw [EReal.coe_mul]⟩

/-- The two ways to say it. -/
theorem finite_iff {x : EReal} : Finite x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- The greatest of finite scores is finite. -/
theorem top_finite (s : Fin 8 → EReal) (h : ∀ k, Finite (s k)) : Finite (top s) := by
  rw [finite_iff]
  unfold top
  rw [ofBits_lowest]
  constructor
  · refine ne_of_lt ((Finset.fold_max_lt _).2 ⟨bot_lt_top, fun k _ => ?_⟩)
    exact lt_top_iff_ne_top.2 (finite_iff.1 (h k)).1
  · refine ne_of_gt (lt_of_lt_of_le (bot_lt_iff_ne_bot.2 (finite_iff.1 (h 0)).2) ?_)
    exact (Finset.le_fold_max _).2 (.inr ⟨0, Finset.mem_univ _, le_rfl⟩)

/-- With finite scores a probability is a nonnegative real number. -/
theorem prob_real (s : Fin 8 → EReal) (h : ∀ k, Finite (s k)) (k : Fin 8) : ∃ r : ℝ, 0 ≤ r ∧ prob s k = r := by
  obtain ⟨M, hM⟩ := top_finite s h
  choose f hf using h
  have he : ∀ j, Ideal.exp (s j - top s) = ((Real.exp (f j - M) : ℝ) : EReal) := fun j => by
    rw [hM, hf, ← EReal.coe_sub, Ideal.exp_coe]
  have hs : ∀ S : Finset (Fin 8), ∑ j ∈ S, Ideal.exp (s j - top s) = ((∑ j ∈ S, Real.exp (f j - M) : ℝ) : EReal) := by
    intro S
    classical
    induction S using Finset.induction_on with
    | empty => simp
    | insert a S ha ih => rw [Finset.sum_insert ha, Finset.sum_insert ha, ih, he, EReal.coe_add]
  have hpos : 0 < ∑ j : Fin 8, Real.exp (f j - M) := Finset.sum_pos (fun j _ => Real.exp_pos _) ⟨0, Finset.mem_univ _⟩
  refine ⟨Real.exp (f k - M) * (1 / ∑ j : Fin 8, Real.exp (f j - M)), by positivity, ?_⟩
  unfold prob
  rw [hs, he, Ideal.div_coe hpos.ne', EReal.coe_mul]

/-- A product by a nonnegative real distributes over a sum of extended reals. -/
theorem real_mul_sum {ι : Type} (S : Finset ι) (f : ι → EReal) {r : ℝ} (hr : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha, ← ih]
    exact EReal.left_distrib_of_nonneg_of_ne_top (EReal.coe_nonneg.2 hr) (EReal.coe_ne_top r) _ _

/-- The scores of one token: the token's row against the router's columns. -/
def scores (x : Fin 128 → EReal) (r : Fin 128 → Fin 8 → EReal) : Fin 8 → EReal := fun k => ∑ d, x d * r d k

/-- Scores of real tokens under a real router are real. -/
theorem scores_finite (x : Fin 128 → EReal) (r : Fin 128 → Fin 8 → EReal) (hx : ∀ d, Finite (x d)) (hr : ∀ d k, Finite (r d k)) (k : Fin 8) :
    Finite (scores x r k) := finite_sum _ _ fun d => finite_mul (hx d) (hr d k)

/-- Scaling the tokens first or the product afterwards is the same. -/
theorem scaled_product (x w : Fin 128 → EReal) {p : EReal} (hp : ∃ r : ℝ, 0 ≤ r ∧ p = r) :
    ∑ k, x k * p * w k = p * ∑ k, x k * w k := by
  obtain ⟨r, hr, rfl⟩ := hp
  rw [real_mul_sum _ _ hr]
  refine Finset.sum_congr rfl fun k _ => ?_
  rw [mul_comm (x k), mul_assoc]

end Cert.MoeProof

end
-- ==== Proof.KernelValue.lean ====
/-
# What the kernel computes on one device

The columns of the gated-token buffer and the rows of the stacked-matrix buffer, entry by entry, and their product: of
the eight expert blocks the one of the token's expert is the token scaled by its probability, and the others are zero.
-/
module

public import proofs.«01_k».proof.Proof.Softmax

@[expose] public section

set_option maxRecDepth 16384

noncomputable section

namespace Cert.MoeProof

open Idealize.ShloMosaic
open Idealize.ShloMosaic.TcCoe
open Cert.KernelIdeal Cert.KernelIdeal.Gen

variable (m : (ℓ : Loc nD τ sig) → Buf (Elt Ideal) ℓ) (ρ : Dev nD → PrngReg)

/-- The kernel's softmax of a token. -/
theorem probs_at (x : FVec Ideal S256x128 .bf16) (r : FVec Ideal S128x8 .bf16) (t : Fin 256) (k : Fin 8) :
    k0_pay7 (F := Ideal) x r (ix2 t k) = prob (scores (fun d => x (ix2 t d)) (fun d k => r (ix2 d k))) k := by
  pointwise [k0_pay7, k0_pay5]
  rfl

/-- Selecting by a comparison of two experts' numbers. -/
theorem select_expert (e f : Fin 8) (a : EReal) :
    Scalar.select (IntOp.cmpi .eq (BitVec.ofNat 32 e.val) (BitVec.ofNat 32 f.val)) a 0 = if e = f then a else 0 := by
  by_cases h : e = f
  · subst h
    rw [if_pos rfl, WordCmp.cmpi_eq_eq]; simp [Scalar.select]
  · rw [if_neg h, show IntOp.cmpi .eq (BitVec.ofNat 32 e.val) (BitVec.ofNat 32 f.val) = 0#1 by revert h; revert e f; decide]
    rfl

/-- The selection of one of eight probabilities, summed over the experts. -/
theorem pick_sum (p : Fin 8 → EReal) (e : Fin 8) :
    ∑ k : Fin 8, Scalar.select (IntOp.cmpi .eq (BitVec.ofNat 32 e.val) (BitVec.ofNat 32 k.val)) (p k) 0 = p e := by
  simp_rw [select_expert]
  simp

/-- One gated token's entry: the token's, scaled by the probability of its expert. -/
theorem gated_at (x : FVec Ideal S256x128 .bf16) (r : FVec Ideal S128x8 .bf16) (i : IVec S256x1 32) (t : Fin 256) (d : Fin 128) (e : Fin 8)
    (h : i (ix2 t (0 : Fin 1)) = BitVec.ofNat 32 e.val) :
    k0_pay12 (F := Ideal) (k0_pay5 x) (k0_pay6 (F := Ideal) i) (k0_pay7 x r) (k0_pay8 x i r) (k0_pay9 (F := Ideal) i) (k0_pay10 x r) (ix2 t d)
      = x (ix2 t d) * prob (scores (fun d => x (ix2 t d)) (fun d k => r (ix2 d k))) e := by
  pointwise [k0_pay12, k0_pay8, k0_pay9, k0_pay10, k0_pay6, k0_pay5]
  rw [h, ← pick_sum (prob (scores (fun d => x (ix2 t d)) (fun d k => r (ix2 d k)))) e, Fin.sum_univ_eight]
  simp only [probs_at]
  rfl

/-! ## The columns of one expert block -/

/-- The expert whose block is block s + 1 of device c's buffers: of the device s / 2 places before, the matrix s % 2. -/
def slotExp (c : Dev nD) (s : Fin 8) : Fin 8 :=
  ⟨2 * (back (s.val / 2) c).val + s.val % 2, by have h : (back (s.val / 2) c).val < 4 := (back (s.val / 2) c).isLt; omega⟩

/-- Every expert has its block. -/
theorem slotExp_bijective (c : Dev nD) : ∃ inv : Fin 8 → Fin 8, ∀ s e, slotExp c s = e ↔ s = inv e := by
  refine ⟨fun e => ⟨(2 * ((c.val + 4 - e.val / 2) % 4) + e.val % 2) % 8, Nat.mod_lt _ (by decide)⟩, ?_⟩
  revert c; decide

/-- The number of that expert as the kernel computes it from the device's number. -/
def slotWord (c : Dev nD) (s : Fin 8) : BitVec 32 :=
  Scalar.addi (Scalar.muli (Scalar.remsi (Scalar.addi (Scalar.subi (posW c) (BitVec.ofNat 32 (s.val / 2))) 4#32) 4#32) 2#32) (BitVec.ofNat 32 (s.val % 2))

/-- It is that expert's number. -/
theorem slotWord_eq (c : Dev nD) (s : Fin 8) : slotWord c s = BitVec.ofNat 32 (slotExp c s).val := by
  revert c s; decide

/-- A block's entries as the kernel selects them, from any gated tokens. -/
theorem col_select (c : Dev nD) (s : Fin 8) (t : Fin 256) (d : Fin 128) (i : IVec S256x1 32) (hi : istg m ρ c = i)
    (x : FVec Ideal S256x128 .bf16) (hx : xg m ρ c = x) :
    colOf m ρ c s.succ (ix2 t d) = Scalar.select (IntOp.cmpi .eq (i (ix2 t (0 : Fin 1))) (slotWord c s)) (x (ix2 t d)) (0 : EReal) := by
  unfold colOf
  rw [hi, hx]
  fin_cases s <;> dsimp only [Fin.succ_mk, Nat.reduceAdd] <;>
    pointwise [k0_pay14, k0_pay15, k0_pay16, k0_pay17, k0_pay18, k0_pay19, k0_pay20, k0_pay21, k0_pay22, k0_pay13, k0_pay6] <;> rfl

/-- A block's entries: the gated token's where the token's expert is the block's, zero elsewhere. -/
theorem col_at (c : Dev nD) (s : Fin 8) (t : Fin 256) (d : Fin 128) (e : Fin 8) (i : IVec S256x1 32) (hi : istg m ρ c = i)
    (h : i (ix2 t (0 : Fin 1)) = BitVec.ofNat 32 e.val) (x : FVec Ideal S256x128 .bf16) (hx : xg m ρ c = x) :
    colOf m ρ c s.succ (ix2 t d) = if e = slotExp c s then x (ix2 t d) else (0 : EReal) := by
  rw [col_select m ρ c s t d i hi x hx, slotWord_eq, h]
  exact select_expert e _ _

/-- The first block holds the tokens. -/
theorem col_zero (c : Dev nD) (t : Fin 256) (d : Fin 128) (x : FVec Ideal S256x128 .bf16) (hx : xstg m ρ c = x) :
    colOf m ρ c 0 (ix2 t d) = x (ix2 t d) := by
  show k0_pay11 (F := Ideal) (k0_pay5 (xstg m ρ c)) (ix2 t d) = _
  rw [hx]
  pointwise [k0_pay11, k0_pay5]

/-! ## The rows of the stacked matrices -/

/-- Place k of block j. -/
def place (j : Fin 9) (k : Fin 128) : Fin 1152 := ⟨128 * j.val + k.val, by omega⟩

/-- The rows of the first block are the shared matrix's. -/
theorem row_zero (c : Dev nD) (k : Fin 128) (n : Fin 256) (s : FVec Ideal S128x256 .bf16) (hs : sstg m ρ c = s) :
    wFull m ρ c (ix2 (place 0 k) n) = s (ix2 k n) := by
  unfold wFull
  rw [stack_top _ _ _ _ (ix2 k n) (by show 128 * 0 + k.val = _; simp) (by simp), hs]
  pointwise [k0_pay4, k0_pay3]

/-- Two experts' matrices, one below the other: row 128 j + k is row k of matrix j. -/
theorem slab_at (w : FVec Ideal S2x128x256 .bf16) (j : Fin 2) (k : Fin 128) (n : Fin 256) (q : Fin 256) (hq : q.val = 128 * j.val + k.val) :
    k0_pay2 (F := Ideal) w (ix2 q n) = w (ix3 j k n) := by
  pointwise [k0_pay2]
  have hk := k.isLt
  exact congrArg₂ (fun a b => w (ix3 a b n)) (Fin.ext (by show q.val / 128 = j.val; omega)) (Fin.ext (by show q.val % 128 = k.val; omega))

/-- The rows of block s + 1 are those of its expert's matrix. -/
theorem row_succ (c : Dev nD) (s : Fin 8) (k : Fin 128) (n : Fin 256) (W : Fin 8 → Fin 128 → Fin 256 → EReal)
    (hW : ∀ (c : Dev nD) (j : Fin 2) (k : Fin 128) (n : Fin 256) (e : Fin 8), e.val = 2 * c.val + j.val → estg m ρ c (ix3 j k n) = W e k n) :
    wFull m ρ c (ix2 (place s.succ k) n) = W (slotExp c s) k n := by
  have hj : s.val % 2 < 2 := Nat.mod_lt _ (by decide)
  have hk := k.isLt
  unfold wFull
  rw [stack_slab _ _ c (s.val / 2) _ (ix2 (⟨128 * (s.val % 2) + k.val, by omega⟩ : Fin 256) n)
    (by show 128 * (s.val + 1) + k.val = 128 + 256 * (s.val / 2) + (128 * (s.val % 2) + k.val); omega) (by simp),
    slab_at _ (⟨s.val % 2, hj⟩ : Fin 2) k n _ rfl]
  exact hW _ _ _ _ _ rfl

/-! ## The product -/

/-- A sum over the 1152 places, block by block. -/
theorem sum_blocks (f : Fin 1152 → EReal) : ∑ q, f q = ∑ j : Fin 9, ∑ k : Fin 128, f (place j k) := by
  rw [← Fintype.sum_prod_type' (fun j k => f (place j k))]
  refine (Fintype.sum_equiv (finProdFinEquiv (m := 9) (n := 128)) _ _ fun p => congrArg f (Fin.ext ?_)).symm
  show 128 * p.1.val + p.2.val = p.2.val + 128 * p.1.val
  exact Nat.add_comm _ _

/-- An entry of nine blocks laid side by side. -/
theorem beside_place (f : Fin 9 → FVec Ideal S256x128 .bf16) (j : Fin 9) (t : Fin 256) (k : Fin 128) :
    beside f (ix2 t (place j k)) = f j (ix2 t k) :=
  beside_at f j _ (ix2 t k) (by simp) rfl

/-- The product the kernel stores, as a sum over the places. -/
theorem product_at (a : FVec Ideal S256x1152 .bf16) (b : FVec Ideal S1152x256 .bf16) (t : Fin 256) (n : Fin 256) :
    k0_pay1 (F := Ideal) a b (ix2 t n) = ∑ q : Fin 1152, a (ix2 t q) * b (ix2 q n) := by
  pointwise [k0_pay1]

/-- One entry of the kernel's result on device c: the token's product with the shared matrix, plus the probability of
    its expert times its product with that expert's matrix. -/
theorem out_at (c : Dev nD) (x : FVec Ideal S256x128 .bf16) (r : FVec Ideal S128x8 .bf16) (i : IVec S256x1 32) (s : FVec Ideal S128x256 .bf16)
    (W : Fin 8 → Fin 128 → Fin 256 → EReal) (hx : xstg m ρ c = x) (hr : rstg m ρ c = r) (hi : istg m ρ c = i) (hs : sstg m ρ c = s)
    (hW : ∀ (c : Dev nD) (j : Fin 2) (k : Fin 128) (n : Fin 256) (e : Fin 8), e.val = 2 * c.val + j.val → estg m ρ c (ix3 j k n) = W e k n)
    (fx : ∀ j, Finite (x j)) (fr : ∀ j, Finite (r j)) (t : Fin 256) (n : Fin 256) (e : Fin 8)
    (h : i (ix2 t (0 : Fin 1)) = BitVec.ofNat 32 e.val) :
    outAt m ρ c (ix2 t n) = (∑ d : Fin 128, x (ix2 t d) * s (ix2 d n))
      + prob (scores (fun d => x (ix2 t d)) (fun d k => r (ix2 d k))) e * ∑ d : Fin 128, x (ix2 t d) * W e d n := by
  obtain ⟨inv, hinv⟩ := slotExp_bijective c
  have hg : ∀ d, xg m ρ c (ix2 t d) = x (ix2 t d) * prob (scores (fun d => x (ix2 t d)) (fun d k => r (ix2 d k))) e := fun d => by
    unfold xg; rw [hx, hr, hi]; exact gated_at x r i t d e h
  unfold outAt
  refine (product_at _ _ t n).trans ?_
  rw [sum_blocks, Fin.sum_univ_succ]
  refine congrArg₂ (· + ·) (Finset.sum_congr rfl fun d _ => ?_) ?_
  · rw [row_zero m ρ c d n s hs]
    exact congrArg (· * s (ix2 d n)) ((beside_place _ 0 t d).trans (col_zero m ρ c t d x hx))
  · have hcol : ∀ (q : Fin 8) (d : Fin 128), xcat m ρ c (ix2 t (place q.succ d)) = if e = slotExp c q then xg m ρ c (ix2 t d) else (0 : EReal) :=
      fun q d => (beside_place _ _ t d).trans (col_at m ρ c q t d e i hi h _ rfl)
    rw [Finset.sum_eq_single (inv e)]
    · rw [← scaled_product _ _ (prob_real _ (scores_finite _ _ (fun d => fx _) (fun d k => fr _)) e)]
      refine Finset.sum_congr rfl fun d _ => ?_
      have he := (hinv (inv e) e).2 rfl
      rw [hcol, row_succ m ρ c (inv e) d n W hW, he, if_pos rfl, hg]
    · intro q _ hq
      refine Finset.sum_eq_zero fun d _ => ?_
      rw [hcol, if_neg fun hh => hq ((hinv q e).1 hh.symm)]
      exact zero_mul _
    · exact fun hn => absurd (Finset.mem_univ _) hn

end Cert.MoeProof

end
-- ==== Proof.RefValue.lean ====
/-
# What the reference computes

Row t of the reference: the shared product, plus the probability of the token's expert times the token's product with that
expert's matrix. The two gathers are read at one index each; the rest is read index by index.
-/
module

public import proofs.«01_k».proof.Proof.Softmax
public import proofs.«01_k».proof.Proof.Gen.ReferenceIdeal
public import Idealize.ShloMosaic.Lib.WordCmp

@[expose] public section

set_option maxRecDepth 16384

noncomputable section

namespace Cert.MoeProof

open Idealize.ShloMosaic
open Cert.ReferenceIdeal Cert.ReferenceIdeal.Gen

/-- Reading the number of an expert as the start of a slice of length one along eight. -/
theorem expert_start (e : Fin 8) : min (BitVec.ofNat 32 e.val).toInt.toNat (8 - 1) = e.val := by
  revert e; decide

/-- The gather of one probability per token reads the token's expert's. -/
theorem gate_at (p : FVec Ideal S1024x8 .f32) (k : IVec S1024x1x1 32) (t : Fin 1024) (e : Fin 8)
    (h : k (ix3 t (0 : Fin 1) (0 : Fin 1)) = BitVec.ofNat 32 e.val) :
    Host.gather gather_S1024x8_S1024x1x1_S1024x1_n_1_0_0_1_2_11 p k (ix2 t (0 : Fin 1)) = p (ix2 t e) := by
  have hk : ∀ q : S1024x1x1.Idx, (q 0).val = t.val → min (k q).toInt.toNat (8 - 1) + 0 + 0 = e.val := fun q hq => by
    rw [show q = ix3 t (0 : Fin 1) (0 : Fin 1) from funext fun b => by
      fin_cases b
      · exact Fin.ext hq
      · exact Subsingleton.elim (α := Fin 1) _ _
      · exact Subsingleton.elim (α := Fin 1) _ _, h]
    exact expert_start e
  unfold Host.gather
  refine congrArg p (funext fun a => Fin.ext ?_)
  fin_cases a
  · show 0 + t.val + 0 = t.val; omega
  · exact hk _ rfl

/-- The gather of one matrix per token reads the token's expert's. -/
theorem matrix_at (w : FVec Ideal S8x128x256 .f32) (k : IVec S1024x1 32) (t : Fin 1024) (d : Fin 128) (n : Fin 256) (e : Fin 8)
    (h : k (ix2 t (0 : Fin 1)) = BitVec.ofNat 32 e.val) :
    Host.gather gather_S8x128x256_S1024x1_S1024x128x256_12_0_n_n_0_1_1128256 w k (ix3 t d n) = w (ix3 e d n) := by
  have hk : ∀ q : S1024x1.Idx, (q 0).val = t.val → min (k q).toInt.toNat (8 - 1) + 0 + 0 = e.val := fun q hq => by
    rw [show q = ix2 t (0 : Fin 1) from funext fun b => by
      fin_cases b
      · exact Fin.ext hq
      · exact Subsingleton.elim (α := Fin 1) _ _, h]
    exact expert_start e
  unfold Host.gather
  refine congrArg w (funext fun a => Fin.ext ?_)
  fin_cases a
  · exact hk _ rfl
  · show 0 + 0 + d.val = d.val; omega
  · show 0 + 0 + n.val = n.val; omega

variable (x : FVec Ideal S1024x128 .bf16) (r : FVec Ideal S128x8 .bf16) (i : IVec S1024x1 32) (w : FVec Ideal S8x128x256 .bf16)
  (s : FVec Ideal S128x256 .bf16)

/-- The router's scores. -/
def refScores : FVec Ideal S1024x8 .f32 :=
  Host.dotGeneral dot_S1024x128_S128x8_S1024x8_1_0_0_1_n_n none (extf .f32 x bitsLt_bf16_f32) (extf .f32 r bitsLt_bf16_f32)

/-- Their exponentials, the greatest score taken off. -/
def refExps (u : FVec Ideal S1024x8 .f32) : FVec Ideal S1024x8 .f32 :=
  Host.exp (subf u (broadcastInDim S1024x8 ![0, 1] bcast_S1024x1_S1024x8_0_1 (broadcastInDim S1024x1 ![0] bcast_S1024_S1024x1_0
    (Host.reduce FloatOps.maximumf u (constant S_ .f32 0xFF800000#32) reducesTo_S1024x8_S1024_d1 h_S_))))

/-- The softmax. -/
def refProbs (u : FVec Ideal S1024x8 .f32) : FVec Ideal S1024x8 .f32 :=
  Host.divf (refExps u) (broadcastInDim S1024x8 ![0, 1] bcast_S1024x1_S1024x8_0_1 (broadcastInDim S1024x1 ![0] bcast_S1024_S1024x1_0
    (Host.reduceAdd (refExps u) (constant S_ .f32 0x00000000#32) reducesTo_S1024x8_S1024_d1 h_S_)))

/-- The experts as the first gather takes them. -/
def refIdx : IVec S1024x1x1 32 :=
  shapeCast _ (select (cmpi .slt i (broadcastInDim S1024x1 ![] bcast_S_S1024x1 (constantI S_ 32 0#32)))
    (addi i (broadcastInDim S1024x1 ![] bcast_S_S1024x1 (constantI S_ 32 8#32))) i) shapeCasts_S1024x1_S1024x1x1

/-- The experts as the second gather takes them. -/
def refIdx' : IVec S1024x1 32 :=
  broadcastInDim S1024x1 ![0] bcast_S1024_S1024x1_0 (select
    (cmpi .slt (shapeCast _ i shapeCasts_S1024x1_S1024) (broadcastInDim S1024 ![] bcast_S_S1024 (constantI S_ 32 0#32)))
    (addi (shapeCast _ i shapeCasts_S1024x1_S1024) (broadcastInDim S1024 ![] bcast_S_S1024 (constantI S_ 32 8#32)))
    (shapeCast _ i shapeCasts_S1024x1_S1024))

/-- The reference's result. -/
def refOut : FVec Ideal S1024x256 .f32 :=
  addf (Host.dotGeneral dot_S1024x128_S128x256_S1024x256_1_0_0_1_n_n none (extf .f32 x bitsLt_bf16_f32) (extf .f32 s bitsLt_bf16_f32))
    (mulf (broadcastInDim S1024x256 ![0, 1] bcast_S1024x1_S1024x256_0_1
        (Host.gather gather_S1024x8_S1024x1x1_S1024x1_n_1_0_0_1_2_11 (refProbs (refScores x r)) (refIdx i)))
      (Host.dotGeneral dot_S1024x128_S1024x128x256_S1024x256_1_1_n_2_0_0 none (extf .f32 x bitsLt_bf16_f32)
        (Host.gather gather_S8x128x256_S1024x1_S1024x128x256_12_0_n_n_0_1_1128256 (extf .f32 w bitsLt_bf16_f32) (refIdx' i))))

/-- A score. -/
theorem refScores_at (t : Fin 1024) (k : Fin 8) : refScores x r (ix2 t k) = scores (fun d => x (ix2 t d)) (fun d k => r (ix2 d k)) k := by
  pointwise [refScores]
  rfl

/-- A probability. -/
theorem refProbs_at (u : FVec Ideal S1024x8 .f32) (t : Fin 1024) (k : Fin 8) : refProbs u (ix2 t k) = prob (fun j => u (ix2 t j)) k := by
  pointwise [refProbs, refExps]
  rfl

/-- A token routed to one of the eight experts is read there by the first gather, -/
theorem refIdx_at (t : Fin 1024) (e : Fin 8) (h : i (ix2 t (0 : Fin 1)) = BitVec.ofNat 32 e.val) :
    refIdx i (ix3 t (0 : Fin 1) (0 : Fin 1)) = BitVec.ofNat 32 e.val := by
  pointwise [refIdx]
  rw [h]
  clear h; revert e; decide

/-- and by the second. -/
theorem refIdx'_at (t : Fin 1024) (e : Fin 8) (h : i (ix2 t (0 : Fin 1)) = BitVec.ofNat 32 e.val) :
    refIdx' i (ix2 t (0 : Fin 1)) = BitVec.ofNat 32 e.val := by
  pointwise [refIdx']
  rw [h]
  clear h; revert e; decide

/-- The two products and the scaling, whatever the gathers gave. -/
theorem refSum_at (g : FVec Ideal S1024x1 .f32) (v : FVec Ideal S1024x128x256 .f32) (t : Fin 1024) (n : Fin 256) :
    (addf (Host.dotGeneral dot_S1024x128_S128x256_S1024x256_1_0_0_1_n_n none (extf .f32 x bitsLt_bf16_f32) (extf .f32 s bitsLt_bf16_f32))
    (mulf (broadcastInDim S1024x256 ![0, 1] bcast_S1024x1_S1024x256_0_1 g)
      (Host.dotGeneral dot_S1024x128_S1024x128x256_S1024x256_1_1_n_2_0_0 none (extf .f32 x bitsLt_bf16_f32) v)) : FVec Ideal S1024x256 .f32) (ix2 t n)
    = (∑ d : Fin 128, x (ix2 t d) * s (ix2 d n)) + g (ix2 t (0 : Fin 1)) * ∑ d : Fin 128, x (ix2 t d) * v (ix3 t d n) := by
  pointwise

/-- One entry of the reference's result. -/
theorem refOut_at (t : Fin 1024) (n : Fin 256) (e : Fin 8) (h : i (ix2 t (0 : Fin 1)) = BitVec.ofNat 32 e.val) :
    refOut x r i w s (ix2 t n) = (∑ d : Fin 128, x (ix2 t d) * s (ix2 d n))
      + prob (scores (fun d => x (ix2 t d)) (fun d k => r (ix2 d k))) e * ∑ d : Fin 128, x (ix2 t d) * w (ix3 e d n) := by
  unfold refOut
  rw [refSum_at, gate_at _ _ t e (refIdx_at i t e h), refProbs_at]
  simp_rw [matrix_at _ _ t _ n e (refIdx'_at i t e h), refScores_at]
  rfl

end Cert.MoeProof

end
-- ==== Proof.Routed.lean ====
/-
# What the precondition says

`routed` of one device's arguments, all ones, means: every token's expert is one of the eight, and every entry of the
tokens and of the router's matrix is a real number.
-/
module

public import proofs.«01_k».proof.Proof.Softmax
public import proofs.«01_k».proof.Proof.Gen.Pre_routed_KernelIdeal
public import Idealize.ShloMosaic.Lib.ReduceAll
public import Idealize.ShloMosaic.Lib.WordCmp

@[expose] public section

noncomputable section

namespace Cert.MoeProof

open Idealize.ShloMosaic

theorem ofBits_inf : Ideal.ofBits FTy.bf16 0x7F80#16 = ⊤ := by
  simp [Ideal.ofBits, Ideal.ieee]

instance : Subsingleton (Cert.Pre_routed_KernelIdeal.S_).Idx := ⟨fun a b => funext fun i => i.elim0⟩

/-- Two bits whose conjunction is one are both one. -/
theorem both_ones {a b : BitVec 1} (h : IntOp.andi a b = 1#1) : a = 1#1 ∧ b = 1#1 := by
  revert h; revert a b; decide

/-- An extended real whose magnitude is below plus infinity is a real. -/
theorem finite_of_bit (x : Ideal .bf16) (h : Ideal.cmp .olt (max x (-x)) (Ideal.ofBits FTy.bf16 0x7F80#16) = 1#1) : Finite x := by
  rw [ofBits_inf] at h
  have hlt : max x (-x) < (⊤ : EReal) := by
    by_contra hn
    simp [Ideal.cmp, hn] at h
  obtain ⟨h1, h2⟩ := max_lt_iff.1 hlt
  refine finite_iff.2 ⟨h1.ne, fun hb => ?_⟩
  subst hb
  simp at h2

/-- A word between 0 and 7, read signed, is the number of one of the eight experts. -/
theorem expert_of_bits (i : BitVec 32) (h : IntOp.cmpi .sge i 0#32 = 1#1) (h' : IntOp.cmpi .slt i 8#32 = 1#1) :
    ∃ e : Fin 8, i = BitVec.ofNat 32 e.val := by
  rw [WordCmp.cmpi_sge_eq, WordCmp.ofBool_decide_eq_one_iff] at h
  rw [WordCmp.cmpi_slt_eq, WordCmp.ofBool_decide_eq_one_iff] at h'
  have h0 : (0#32).toInt = 0 := by decide
  have h8 : (8#32).toInt = 8 := by decide
  have hi := i.toInt_eq_toNat_cond
  have hl := i.isLt
  have hn : i.toNat < 8 := by split at hi <;> omega
  exact ⟨⟨i.toNat, hn⟩, by simp⟩

open Cert.Pre_routed_KernelIdeal in
/-- The precondition, read: the tokens and the router's matrix are real, and the experts are among the eight. -/
theorem routed_iff [Cert.Pre_routed_KernelIdeal.Facts] (x : FVec Ideal S256x128 .bf16) (r : FVec Ideal S128x8 .bf16) (i : IVec S256x1 32)
    (w : FVec Ideal S2x128x256 .bf16) (s : FVec Ideal S128x256 .bf16) (h : fn (F := Ideal) x r i w s = fun _ => 1#1) :
    (∀ j, Finite (x j)) ∧ (∀ j, Finite (r j)) ∧ ∀ j, ∃ e : Fin 8, i j = BitVec.ofNat 32 e.val := by
  obtain ⟨hi, hf⟩ := both_ones (congrFun h (fun a => a.elim0))
  obtain ⟨hx, hr⟩ := both_ones hf
  refine ⟨fun j => finite_of_bit _ (Host.reduce_andi_all _ _ _ _ _ hx j), fun j => finite_of_bit _ (Host.reduce_andi_all _ _ _ _ _ hr j), fun j => ?_⟩
  obtain ⟨h1, h2⟩ := both_ones (Host.reduce_andi_all _ _ _ _ _ hi j)
  exact expert_of_bits _ h1 h2

end Cert.MoeProof

end
-- ==== Proof.Equation.lean ====
/-
# Device c's result is block c of the reference's

The kernel's entry and the reference's are the same expression of the arrays; what is left is where a device's blocks lie
in them: row t of device c is row 256 c + t, and matrix j of device c is the matrix of expert 2 c + j.
-/
module

public import proofs.«01_k».proof.Proof.KernelValue
public import proofs.«01_k».proof.Proof.RefValue
public import proofs.«01_k».proof.Proof.Routed
public import proofs.«01_k».proof.Proof.Gen.ReferenceIdeal.Run
public import Idealize.ShloMosaic.Lib.Layout

@[expose] public section

set_option maxRecDepth 16384

noncomputable section

namespace Cert.MoeProof

open Idealize.ShloMosaic
open Idealize.ShloMosaic.TcCoe
open Cert.KernelIdeal Cert.KernelIdeal.Gen

variable (m : (ℓ : Loc nD τ sig) → Buf (Elt Ideal) ℓ) (ρ : Dev nD → PrngReg)

/-- Row t of block c is row 256 c + t of the whole. -/
def row (c : Fin 4) (t : Fin 256) : Fin 1024 := ⟨c.val * 256 + t.val, by omega⟩

/-- A block of rows, entry by entry. -/
theorem block_rows {α : Type} {n : ℕ} (c : Fin 4) (v : (⟨2, ![1024, n]⟩ : Shape).Idx → α)
    (h : Layout.Tiles ⟨2, ![256, n]⟩ ⟨2, ![1024, n]⟩ 0 4) (t : Fin 256) (k : Fin n) :
    Layout.block ⟨2, ![256, n]⟩ ⟨2, ![1024, n]⟩ 0 4 c v h (ix2 t k) = v (ix2 (row c t) k) := by
  refine congrArg v (funext fun a => Fin.ext ?_)
  fin_cases a <;> rfl

/-- A block of experts, entry by entry. -/
theorem block_experts (c : Fin 4) (v : (⟨3, ![8, 128, 256]⟩ : Shape).Idx → EReal) (h : Layout.Tiles ⟨3, ![2, 128, 256]⟩ ⟨3, ![8, 128, 256]⟩ 0 4)
    (j : Fin 2) (k : Fin 128) (n : Fin 256) (e : Fin 8) (he : e.val = 2 * c.val + j.val) :
    Layout.block ⟨3, ![2, 128, 256]⟩ ⟨3, ![8, 128, 256]⟩ 0 4 c v h (ix3 j k n) = v (ix3 e k n) := by
  refine congrArg v (funext fun a => Fin.ext ?_)
  fin_cases a
  · show c.val * 2 + j.val = e.val; omega
  · rfl
  · rfl

/-- With the devices' arguments the blocks of the reference's, and the precondition, device c's result is block c of the
    reference's. -/
theorem equation [Cert.Pre_routed_KernelIdeal.Facts] (x : FVec Ideal Cert.ReferenceIdeal.S1024x128 .bf16) (r : FVec Ideal S128x8 .bf16)
    (i : IVec Cert.ReferenceIdeal.S1024x1 32) (w : FVec Ideal Cert.ReferenceIdeal.S8x128x256 .bf16) (s : FVec Ideal S128x256 .bf16)
    (hpre : ∀ c : Dev nD, Cert.Pre_routed_KernelIdeal.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1)
    (hx : ∀ c : Dev nD, m ((c.tc : Thread nD τ).loc main_arg0) = Layout.block ⟨2, ![256, 128]⟩ ⟨2, ![1024, 128]⟩ 0 4 c x)
    (hr : ∀ c : Dev nD, m ((c.tc : Thread nD τ).loc main_arg1) = r)
    (hi : ∀ c : Dev nD, m ((c.tc : Thread nD τ).loc main_arg2) = Layout.block ⟨2, ![256, 1]⟩ ⟨2, ![1024, 1]⟩ 0 4 c i)
    (hw : ∀ c : Dev nD, m ((c.tc : Thread nD τ).loc main_arg3) = Layout.block ⟨3, ![2, 128, 256]⟩ ⟨3, ![8, 128, 256]⟩ 0 4 c w)
    (hs : ∀ c : Dev nD, m ((c.tc : Thread nD τ).loc main_arg4) = s) (c : Dev nD) :
    outAt m ρ c = Layout.block ⟨2, ![256, 256]⟩ ⟨2, ![1024, 256]⟩ 0 4 c (refOut x r i w s) := by
  obtain ⟨fx, fr, fi⟩ := routed_iff _ _ _ _ _ (hpre c)
  rw [hx c] at fx
  rw [hr c] at fr
  rw [hi c] at fi
  funext q
  obtain ⟨t, n, rfl⟩ : ∃ (t : Fin 256) (n : Fin 256), q = ix2 t n := ⟨q 0, q 1, by funext a; fin_cases a <;> rfl⟩
  obtain ⟨e, he⟩ := fi (ix2 t (0 : Fin 1))
  have he' : i (ix2 (row c t) (0 : Fin 1)) = BitVec.ofNat 32 e.val := (block_rows c i _ t 0).symm.trans he
  rw [out_at m ρ c _ r _ s (fun e k n => w (ix3 e k n)) ((xstg_eq m ρ c).trans (hx c)) ((rstg_eq m ρ c).trans (hr c))
    ((istg_eq m ρ c).trans (hi c)) ((sstg_eq m ρ c).trans (hs c))
    (fun c j k n e he => (congrFun ((estg_eq m ρ c).trans (hw c)) _).trans (block_experts c w _ j k n e he)) fx fr t n e he]
  refine Eq.trans ?_ (block_rows c (refOut x r i w s) _ t n).symm
  rw [refOut_at x r i w s (row c t) n e he']
  simp only [block_rows]

end Cert.MoeProof

end
-- ==== Proof.Algebraic.lean ====
/-
# The value claim

The kernel's run leaves `outAt` on every device, the reference's run leaves `refOut`, and by the equation the first is
device c's block of the second.
-/
module

public import proofs.«01_k».proof.Defs
public import proofs.«01_k».proof.Proof.Equation
public import proofs.«01_k».proof.Proof.Gen.Pre_routed_ReferenceIdeal

@[expose] public section

noncomputable section

namespace Cert.MoeProof

open Idealize.ShloMosaic Idealize.SL.Sem

/-- Over the extended reals, device c's result is block c of the reference's. -/
theorem algebraic : Cert.algebraic_KernelIdeal_ReferenceIdeal_pre_routed_KernelIdeal := by
  intro m g m' g' hpre hargs
  refine ⟨_, (θ_run _ _ _).mono (fun r h c => ⟨(h.1 c).1.trans ?_, (h.1 c).2⟩) (run_main m g),
    (θ_run _ _ _).mono (fun r h => h 0) (Cert.ReferenceIdeal.Value.run (F := Ideal) m' g')⟩
  exact equation m g _ _ _ _ _ hpre (fun c => (hargs c).1) (fun c => (hargs c).2.1) (fun c => (hargs c).2.2.1) (fun c => (hargs c).2.2.2.1)
    (fun c => (hargs c).2.2.2.2) c

end Cert.MoeProof

end
-- ==== Proof.lean ====
/-
# The certificate

The frames of the kernel, of its ideal instance and of the reference; that the ideal instance is the kernel's text; and
that over the extended reals device c's result is block c of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- All the claims. -/
theorem claim : Cert.Claim := ⟨Cert.Kernel.Gen.facts, Cert.KernelIdeal.Gen.facts, Cert.ReferenceIdeal.Gen.facts, Cert.Pre_routed_KernelIdeal.Gen.facts, Cert.Pre_routed_ReferenceIdeal.Gen.facts,
  Cert.MoeProof.frame_kernel, Cert.MoeProof.frame_kernelIdeal, fun m ρ _ => Cert.MoeProof.frame_kernelIdeal m ρ trivial,
  Cert.MoeProof.frame_referenceIdeal, fun m ρ _ => Cert.MoeProof.frame_referenceIdeal m ρ trivial, trivial, Cert.MoeProof.algebraic⟩

end Cert.Proof

end
